-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mla_finite [hPre_mla_finite : Cert.Pre_mla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mla_finite [hPre_mla_finite : Cert.Pre_mla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_mla_finite [hKernelIdeal : Cert.KernelIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_mla_finite [hReferenceIdeal : Cert.ReferenceIdeal.Facts] [hPre_mla_finite : Cert.Pre_mla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_mla_finite [hKernelIdeal : Cert.KernelIdeal.Facts] [hReferenceIdeal : Cert.ReferenceIdeal.Facts] [hPre_mla_finite : Cert.Pre_mla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Fox_FoxIdeal : Prop :=
  IdealRules.named_const.Statement Cert.FoxIdeal.κ "mask" .f32 0xF149F2CA#32 ⊥

def algebraic_FoxIdeal_FoxReferenceIdeal_pre_fox_finite [hFoxIdeal : Cert.FoxIdeal.Facts] [hFoxReferenceIdeal : Cert.FoxReferenceIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_fox_finite m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v46)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v46) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v32) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v56) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v15)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v15) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v77) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def Claim : Prop :=
  ∃ (hKernel : Cert.Kernel.Facts) (hKernelIdeal : Cert.KernelIdeal.Facts) (hReferenceIdeal : Cert.ReferenceIdeal.Facts) (hFox : Cert.Fox.Facts) (hFoxIdeal : Cert.FoxIdeal.Facts) (hFoxReferenceIdeal : Cert.FoxReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hPre_mla_finite : Cert.Pre_mla_finite.Facts) (hPre_fox_finite : Cert.Pre_fox_finite.Facts),
    quiescent_Kernel (hKernel := hKernel)
    ∧ quiescent_KernelIdeal (hKernelIdeal := hKernelIdeal)
    ∧ quiescent_KernelIdeal_pre_mla_finite (hKernelIdeal := hKernelIdeal) (hPre_mla_finite := hPre_mla_finite)
    ∧ quiescent_ReferenceIdeal (hReferenceIdeal := hReferenceIdeal)
    ∧ quiescent_ReferenceIdeal_pre_mla_finite (hReferenceIdeal := hReferenceIdeal) (hPre_mla_finite := hPre_mla_finite)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_mla_finite (hKernelIdeal := hKernelIdeal) (hReferenceIdeal := hReferenceIdeal) (hPre_mla_finite := hPre_mla_finite)
    ∧ preserves_Fox_FoxIdeal
    ∧ algebraic_FoxIdeal_FoxReferenceIdeal_pre_fox_finite (hFoxIdeal := hFoxIdeal) (hFoxReferenceIdeal := hFoxReferenceIdeal) (hPre_fox_finite := hPre_fox_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
-- ==== Pre_fox_finite.lean ====
abbrev S16x4096x4x64 : Shape := ⟨4, ![16, 4096, 4, 64]⟩
abbrev S16x4096x4 : Shape := ⟨3, ![16, 4096, 4]⟩
abbrev S_ : Shape := ⟨0, ![]⟩
abbrev S1 : Shape := ⟨1, ![1]⟩
abbrev S3 : Shape := ⟨1, ![3]⟩

class Facts : Prop where
  bcast_S_S16x4096x4x64 : S_.BroadcastsInDim S16x4096x4x64 (![] : Fin 0 → Fin S16x4096x4x64.rank)
  reducesTo_S16x4096x4x64_S_d0_1_2_3 : S16x4096x4x64.ReducesTo [0, 1, 2, 3] S_
  h_S_ : 0 < S_.numel
  bcast_S_S16x4096x4 : S_.BroadcastsInDim S16x4096x4 (![] : Fin 0 → Fin S16x4096x4.rank)
  reducesTo_S16x4096x4_S_d0_1_2 : S16x4096x4.ReducesTo [0, 1, 2] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S16x4096x4x64 .f32) (main_arg1 : FVec F S16x4096x4x64 .f32) (main_arg2 : FVec F S16x4096x4x64 .f32) (main_arg3 : FVec F S16x4096x4 .f32) : IVec S3 1 :=
  let main_v0 : FVec F S16x4096x4x64 .f32 := Host.absf main_arg0
  let main_cst : FVec F S_ .f32 := constant S_ .f32 0x7F800000#32
  let main_v1 : FVec F S16x4096x4x64 .f32 := broadcastInDim S16x4096x4x64 ![] bcast_S_S16x4096x4x64 main_cst
  let main_v2 : IVec S16x4096x4x64 1 := cmpf .olt main_v0 main_v1
  let main_c : IVec S_ 1 := constantI S_ 1 1#1
  let main_v3 : IVec S_ 1 := (fun x v => Host.reduce IntOp.andi x v reducesTo_S16x4096x4x64_S_d0_1_2_3 h_S_) main_v2 main_c
  let main_v4 : FVec F S16x4096x4x64 .f32 := Host.absf main_arg1
  let main_cst_0 : FVec F S_ .f32 := constant S_ .f32 0x7F800000#32
  let main_v5 : FVec F S16x4096x4x64 .f32 := broadcastInDim S16x4096x4x64 ![] bcast_S_S16x4096x4x64 main_cst_0
  let main_v6 : IVec S16x4096x4x64 1 := cmpf .olt main_v4 main_v5
  let main_c_1 : IVec S_ 1 := constantI S_ 1 1#1
  let main_v7 : IVec S_ 1 := (fun x v => Host.reduce IntOp.andi x v reducesTo_S16x4096x4x64_S_d0_1_2_3 h_S_) main_v6 main_c_1
  let main_v8 : FVec F S16x4096x4 .f32 := Host.absf main_arg3
  let main_cst_2 : FVec F S_ .f32 := constant S_ .f32 0x7F800000#32
  let main_v9 : FVec F S16x4096x4 .f32 := broadcastInDim S16x4096x4 ![] bcast_S_S16x4096x4 main_cst_2
  let main_v10 : IVec S16x4096x4 1 := cmpf .olt main_v8 main_v9
  let main_c_3 : IVec S_ 1 := constantI S_ 1 1#1
  let main_v11 : IVec S_ 1 := (fun x v => Host.reduce IntOp.andi x v reducesTo_S16x4096x4_S_d0_1_2 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  main_v15
-- ==== Pre_mla_finite.lean ====
abbrev S16x4096x4x64 : Shape := ⟨4, ![16, 4096, 4, 64]⟩
abbrev S16x4096x4x32 : Shape := ⟨4, ![16, 4096, 4, 32]⟩
abbrev S16x4096x32 : Shape := ⟨3, ![16, 4096, 32]⟩
abbrev S_ : Shape := ⟨0, ![]⟩
abbrev S1 : Shape := ⟨1, ![1]⟩
abbrev S4 : Shape := ⟨1, ![4]⟩

class Facts : Prop where
  bcast_S_S16x4096x4x64 : S_.BroadcastsInDim S16x4096x4x64 (![] : Fin 0 → Fin S16x4096x4x64.rank)
  reducesTo_S16x4096x4x64_S_d0_1_2_3 : S16x4096x4x64.ReducesTo [0, 1, 2, 3] S_
  h_S_ : 0 < S_.numel
  bcast_S_S16x4096x4x32 : S_.BroadcastsInDim S16x4096x4x32 (![] : Fin 0 → Fin S16x4096x4x32.rank)
  reducesTo_S16x4096x4x32_S_d0_1_2_3 : S16x4096x4x32.ReducesTo [0, 1, 2, 3] S_
  bcast_S_S16x4096x32 : S_.BroadcastsInDim S16x4096x32 (![] : Fin 0 → Fin S16x4096x32.rank)
  reducesTo_S16x4096x32_S_d0_1_2 : S16x4096x32.ReducesTo [0, 1, 2] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_v3 : IVec S_ 1) (main_v7 : IVec S_ 1) (main_v11 : IVec S_ 1) (main_v15 : IVec S_ 1) : IVec S4 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  main_v20

def fn {F : FTy → Type} [FloatOps F] (main_arg0 : FVec F S16x4096x4x64 .f32) (main_arg1 : FVec F S16x4096x4x32 .f32) (main_arg2 : FVec F S16x4096x4x64 .f32) (main_arg3 : FVec F S16x4096x32 .f32) (main_arg4 : FVec F S16x4096x4x64 .f32) : IVec S4 1 :=
  let main_v0 : FVec F S16x4096x4x64 .f32 := Host.absf main_arg0
  let main_cst : FVec F S_ .f32 := constant S_ .f32 0x7F800000#32
  let main_v1 : FVec F S16x4096x4x64 .f32 := broadcastInDim S16x4096x4x64 ![] bcast_S_S16x4096x4x64 main_cst
  let main_v2 : IVec S16x4096x4x64 1 := cmpf .olt main_v0 main_v1
  let main_c : IVec S_ 1 := constantI S_ 1 1#1
  let main_v3 : IVec S_ 1 := (fun x v => Host.reduce IntOp.andi x v reducesTo_S16x4096x4x64_S_d0_1_2_3 h_S_) main_v2 main_c
  let main_v4 : FVec F S16x4096x4x32 .f32 := Host.absf main_arg1
  let main_cst_0 : FVec F S_ .f32 := constant S_ .f32 0x7F800000#32
  let main_v5 : FVec F S16x4096x4x32 .f32 := broadcastInDim S16x4096x4x32 ![] bcast_S_S16x4096x4x32 main_cst_0
  let main_v6 : IVec S16x4096x4x32 1 := cmpf .olt main_v4 main_v5
  let main_c_1 : IVec S_ 1 := constantI S_ 1 1#1
  let main_v7 : IVec S_ 1 := (fun x v => Host.reduce IntOp.andi x v reducesTo_S16x4096x4x32_S_d0_1_2_3 h_S_) main_v6 main_c_1
  let main_v8 : FVec F S16x4096x4x64 .f32 := Host.absf main_arg2
  let main_cst_2 : FVec F S_ .f32 := constant S_ .f32 0x7F800000#32
  let main_v9 : FVec F S16x4096x4x64 .f32 := broadcastInDim S16x4096x4x64 ![] bcast_S_S16x4096x4x64 main_cst_2
  let main_v10 : IVec S16x4096x4x64 1 := cmpf .olt main_v8 main_v9
  let main_c_3 : IVec S_ 1 := constantI S_ 1 1#1
  let main_v11 : IVec S_ 1 := (fun x v => Host.reduce IntOp.andi x v reducesTo_S16x4096x4x64_S_d0_1_2_3 h_S_) main_v10 main_c_3
  let main_v12 : FVec F S16x4096x32 .f32 := Host.absf main_arg3
  let main_cst_4 : FVec F S_ .f32 := constant S_ .f32 0x7F800000#32
  let main_v13 : FVec F S16x4096x32 .f32 := broadcastInDim S16x4096x32 ![] bcast_S_S16x4096x32 main_cst_4
  let main_v14 : IVec S16x4096x32 1 := cmpf .olt main_v12 main_v13
  let main_c_5 : IVec S_ 1 := constantI S_ 1 1#1
  let main_v15 : IVec S_ 1 := (fun x v => Host.reduce IntOp.andi x v reducesTo_S16x4096x32_S_d0_1_2 h_S_) main_v14 main_c_5
  fn_part1 (F := F) main_v3 main_v7 main_v11 main_v15
-- ==== Kernel.lean ====
abbrev S16x4096x4x64 : Shape := ⟨4, ![16, 4096, 4, 64]⟩
abbrev S16x4096x4x32 : Shape := ⟨4, ![16, 4096, 4, 32]⟩
abbrev S16x4096x32 : Shape := ⟨3, ![16, 4096, 32]⟩
abbrev S_ : Shape := ⟨0, ![]⟩
abbrev S16x4096x4x128 : Shape := ⟨4, ![16, 4096, 4, 128]⟩
abbrev S16x4096x1x32 : Shape := ⟨4, ![16, 4096, 1, 32]⟩
abbrev S16x4096x512 : Shape := ⟨3, ![16, 4096, 512]⟩
abbrev S16x4096x256 : Shape := ⟨3, ![16, 4096, 256]⟩
abbrev S1x512x512 : Shape := ⟨3, ![1, 512, 512]⟩
abbrev S1x4096x512 : Shape := ⟨3, ![1, 4096, 512]⟩
abbrev S1x512x256 : Shape := ⟨3, ![1, 512, 256]⟩
abbrev S4x512x128 : Shape := ⟨3, ![4, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 32
  | .vmem => 10
  | .smem => 0
  | _ => 0

abbrev bufTy : (tb : Table) → Fin (tcTables nBuf tb) → BufTy
  | .hbm, ⟨0, _⟩ => ⟨S16x4096x4x64, .f32⟩
  | .hbm, ⟨1, _⟩ => ⟨S16x4096x4x32, .f32⟩
  | .hbm, ⟨2, _⟩ => ⟨S16x4096x4x64, .f32⟩
  | .hbm, ⟨3, _⟩ => ⟨S16x4096x32, .f32⟩
  | .hbm, ⟨4, _⟩ => ⟨S16x4096x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x4096x4x32, .f32⟩
  | .hbm, ⟨14, _⟩ => ⟨S16x4096x4x64, .f32⟩
  | .hbm, ⟨15, _⟩ => ⟨S16x4096x4x64, .f32⟩
  | .hbm, ⟨16, _⟩ => ⟨S16x4096x4x32, .f32⟩
  | .hbm, ⟨17, _⟩ => ⟨S16x4096x4x32, .f32⟩
  | .hbm, ⟨18, _⟩ => ⟨S16x4096x4x128, .f32⟩
  | .hbm, ⟨19, _⟩ => ⟨S16x4096x1x32, .f32⟩
  | .hbm, ⟨20, _⟩ => ⟨S16x4096x4x32, .f32⟩
  | .hbm, ⟨21, _⟩ => ⟨S16x4096x4x128, .f32⟩
  | .hbm, ⟨22, _⟩ => ⟨S_, .f32⟩
  | .hbm, ⟨23, _⟩ => ⟨S16x4096x4x64, .f32⟩
  | .hbm, ⟨24, _⟩ => ⟨S16x4096x4x128, .f32⟩
  | .hbm, ⟨25, _⟩ => ⟨S16x4096x512, .f32⟩
  | .hbm, ⟨26, _⟩ => ⟨S16x4096x512, .bf16⟩
  | .hbm, ⟨27, _⟩ => ⟨S16x4096x512, .f32⟩
  | .hbm, ⟨28, _⟩ => ⟨S16x4096x512, .bf16⟩
  | .hbm, ⟨29, _⟩ => ⟨S16x4096x512, .f32⟩
  | .hbm, ⟨30, _⟩ => ⟨S16x4096x512, .bf16⟩
  | .hbm, ⟨31, _⟩ => ⟨S16x4096x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x512x128, .f32⟩
  | .local _ .vmem, ⟨9, _⟩ => ⟨S4x512x128, .f32⟩
  | _, _ => ⟨S16x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_7 : BitVec 32 := 1#32
  ⟨c0_i32_6, v15, c1_i32_7⟩
def k0_mult1 (i : grid0.Coords) (k0_t1 : Fin (k0_t1_loop i).trips) : BitVec 32 :=
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  v190
def k0_off1 (i : grid0.Coords) (k0_t1 : Fin (k0_t1_loop i).trips) : Fin 3 → Nat :=
  let c0_118 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v194 : Index := Scalar.indexCast v191
  let c0_119 : Index := 0#32
  ![0, v194.toNat, 0]
def k0_off2 (i : grid0.Coords) (k0_t1 : Fin (k0_t1_loop i).trips) : Fin 3 → Nat :=
  let c0_124 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v200 : Index := Scalar.indexCast v191
  let c128_125 : Index := 128#32
  ![0, v200.toNat, 128]
def k0_off3 (i : grid0.Coords) (k0_t1 : Fin (k0_t1_loop i).trips) : Fin 3 → Nat :=
  let c0_130 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v206 : Index := Scalar.indexCast v191
  let c256_131 : Index := 256#32
  ![0, v206.toNat, 256]
def k0_off4 (i : grid0.Coords) (k0_t1 : Fin (k0_t1_loop i).trips) : Fin 3 → Nat :=
  let c0_136 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v212 : Index := Scalar.indexCast v191
  let c384_137 : Index := 384#32
  ![0, v212.toNat, 384]
@[reducible] def k0_t2_loop (i : grid0.Coords) : Scf.Loop 32 :=
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let v12 : BitVec 32 := Scalar.addi c0_i32_6 v11
  let c1_i32_8 : BitVec 32 := 1#32
  ⟨v15, v12, c1_i32_8⟩
def k0_mult2 (i : grid0.Coords) (k0_t2 : Fin (k0_t2_loop i).trips) : BitVec 32 :=
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  v190
def k0_off5 (i : grid0.Coords) (k0_t2 : Fin (k0_t2_loop i).trips) : Fin 3 → Nat :=
  let c0_118 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v194 : Index := Scalar.indexCast v191
  let c0_119 : Index := 0#32
  ![0, v194.toNat, 0]
def k0_off6 (i : grid0.Coords) (k0_t2 : Fin (k0_t2_loop i).trips) : Fin 3 → Nat :=
  let c0_124 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v200 : Index := Scalar.indexCast v191
  let c128_125 : Index := 128#32
  ![0, v200.toNat, 128]
def k0_off7 (i : grid0.Coords) (k0_t2 : Fin (k0_t2_loop i).trips) : Fin 3 → Nat :=
  let c0_130 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v206 : Index := Scalar.indexCast v191
  let c256_131 : Index := 256#32
  ![0, v206.toNat, 256]
def k0_off8 (i : grid0.Coords) (k0_t2 : Fin (k0_t2_loop i).trips) : Fin 3 → Nat :=
  let c0_136 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v212 : Index := Scalar.indexCast v191
  let c384_137 : Index := 384#32
  ![0, v212.toNat, 384]
def k0_mult3 (i : grid0.Coords) : BitVec 32 :=
  let arg1 : BitVec 32 := BitVec.ofNat 32 (i 1).val
  let c512_i32 : BitVec 32 := 512#32
  let v16 : BitVec 32 := Scalar.muli arg1 c512_i32
  v16
def k0_off9 (i : grid0.Coords) : Fin 3 → Nat :=
  let c0_15 : Index := 0#32
  let arg1 : BitVec 32 := BitVec.ofNat 32 (i 1).val
  let c512_i32 : BitVec 32 := 512#32
  let v16 : BitVec 32 := Scalar.muli arg1 c512_i32
  let v17 : BitVec 32 := v16
  let v25 : Index := Scalar.indexCast v17
  let c0_16 : Index := 0#32
  ![0, v25.toNat, 0]
def k0_off10 (i : grid0.Coords) : Fin 3 → Nat :=
  let c0_20 : Index := 0#32
  let arg1 : BitVec 32 := BitVec.ofNat 32 (i 1).val
  let c512_i32 : BitVec 32 := 512#32
  let v16 : BitVec 32 := Scalar.muli arg1 c512_i32
  let v17 : BitVec 32 := v16
  let v32 : Index := Scalar.indexCast v17
  let c128_21 : Index := 128#32
  ![0, v32.toNat, 128]
def k0_off11 (i : grid0.Coords) : Fin 3 → Nat :=
  let c0_25 : Index := 0#32
  let arg1 : BitVec 32 := BitVec.ofNat 32 (i 1).val
  let c512_i32 : BitVec 32 := 512#32
  let v16 : BitVec 32 := Scalar.muli arg1 c512_i32
  let v17 : BitVec 32 := v16
  let v39 : Index := Scalar.indexCast v17
  let c256_26 : Index := 256#32
  ![0, v39.toNat, 256]
def k0_off12 (i : grid0.Coords) : Fin 3 → Nat :=
  let c0_30 : Index := 0#32
  let arg1 : BitVec 32 := BitVec.ofNat 32 (i 1).val
  let c512_i32 : BitVec 32 := 512#32
  let v16 : BitVec 32 := Scalar.muli arg1 c512_i32
  let v17 : BitVec 32 := v16
  let v46 : Index := Scalar.indexCast v17
  let c384_31 : Index := 384#32
  ![0, v46.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x4096x4x64 : Shape := ⟨4, ![16, 4096, 4, 64]⟩
abbrev S16x4096x4x32 : Shape := ⟨4, ![16, 4096, 4, 32]⟩
abbrev S16x4096x32 : Shape := ⟨3, ![16, 4096, 32]⟩
abbrev S16x4x4096x4096 : Shape := ⟨4, ![16, 4, 4096, 4096]⟩
abbrev S16x4096x4096x4 : Shape := ⟨4, ![16, 4096, 4096, 4]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S16x4096x256 : Shape := ⟨3, ![16, 4096, 256]⟩

abbrev nBuf : Space → Nat
  | .hbm => 47
  | .vmem => 0
  | .smem => 0
  | _ => 0

abbrev bufTy : (tb : Table) → Fin (tcTables nBuf tb) → BufTy
  | .hbm, ⟨0, _⟩ => ⟨S16x4096x4x64, .f32⟩
  | .hbm, ⟨1, _⟩ => ⟨S16x4096x4x32, .f32⟩
  | .hbm, ⟨2, _⟩ => ⟨S16x4096x4x64, .f32⟩
  | .hbm, ⟨3, _⟩ => ⟨S16x4096x32, .f32⟩
  | .hbm, ⟨4, _⟩ => ⟨S16x4096x4x64, .f32⟩
  | .hbm, ⟨5, _⟩ => ⟨S16x4x4096x4096, .f32⟩
  | .hbm, ⟨6, _⟩ => ⟨S16x4096x4096x4, .f32⟩
  | .hbm, ⟨7, _⟩ => ⟨S16x4x4096x4096, .f32⟩
  | .hbm, ⟨8, _⟩ => ⟨S16x4x4096x4096, .f32⟩
  | .hbm, ⟨9, _⟩ => ⟨S_, .f32⟩
  | .hbm, ⟨10, _⟩ => ⟨S_, .f32⟩
  | .hbm, ⟨11, _⟩ => ⟨S16x4x4096x4096, .f32⟩
  | .hbm, ⟨12, _⟩ => ⟨S16x4x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S16x4x4096x4096, .i1⟩
  | .hbm, ⟨22, _⟩ => ⟨S16x4x4096x4096, .f32⟩
  | .hbm, ⟨23, _⟩ => ⟨S16x4x4096x4096, .f32⟩
  | .hbm, ⟨24, _⟩ => ⟨S_, .f32⟩
  | .hbm, ⟨25, _⟩ => ⟨S16x4x4096, .f32⟩
  | .hbm, ⟨26, _⟩ => ⟨S16x4x4096x1, .f32⟩
  | .hbm, ⟨27, _⟩ => ⟨S16x4x4096x4096, .f32⟩
  | .hbm, ⟨28, _⟩ => ⟨S16x4x4096x4096, .f32⟩
  | .hbm, ⟨29, _⟩ => ⟨S16x4x4096x4096, .f32⟩
  | .hbm, ⟨30, _⟩ => ⟨S_, .f32⟩
  | .hbm, ⟨31, _⟩ => ⟨S_, .f32⟩
  | .hbm, ⟨32, _⟩ => ⟨S16x4x4096x4096, .i1⟩
  | .hbm, ⟨33, _⟩ => ⟨S16x4x4096x4096, .f32⟩
  | .hbm, ⟨34, _⟩ => ⟨S16x4x4096x4096, .f32⟩
  | .hbm, ⟨35, _⟩ => ⟨S_, .f32⟩
  | .hbm, ⟨36, _⟩ => ⟨S16x4x4096, .f32⟩
  | .hbm, ⟨37, _⟩ => ⟨S16x4x4096x1, .f32⟩
  | .hbm, ⟨38, _⟩ => ⟨S_, .f32⟩
  | .hbm, ⟨39, _⟩ => ⟨S16x4x4096x1, .f32⟩
  | .hbm, ⟨40, _⟩ => ⟨S16x4x4096x1, .f32⟩
  | .hbm, ⟨41, _⟩ => ⟨S16x4x4096x4096, .f32⟩
  | .hbm, ⟨42, _⟩ => ⟨S16x4x4096x4096, .f32⟩
  | .hbm, ⟨43, _⟩ => ⟨S16x4x64x4096, .f32⟩
  | .hbm, ⟨44, _⟩ => ⟨S16x4096x4x64, .f32⟩
  | .hbm, ⟨45, _⟩ => ⟨S16x4096x256, .f32⟩
  | .hbm, ⟨46, _⟩ => ⟨S16x4096x256, .bf16⟩
  | _, _ => ⟨S16x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Fox.lean ====
abbrev S16x4096x4x64 : Shape := ⟨4, ![16, 4096, 4, 64]⟩
abbrev S16x4096x4 : Shape := ⟨3, ![16, 4096, 4]⟩
abbrev S_ : Shape := ⟨0, ![]⟩
abbrev S16x4096x4x1 : Shape := ⟨4, ![16, 4096, 4, 1]⟩
abbrev S16x4096x4x3 : Shape := ⟨4, ![16, 4096, 4, 3]⟩
abbrev S16x4096x1x12 : Shape := ⟨4, ![16, 4096, 1, 12]⟩
abbrev S12 : Shape := ⟨1, ![12]⟩
abbrev S1x12 : Shape := ⟨2, ![1, 12]⟩
abbrev S4 : Shape := ⟨1, ![4]⟩
abbrev S4x1 : Shape := ⟨2, ![4, 1]⟩
abbrev S4x12 : Shape := ⟨2, ![4, 12]⟩
abbrev S16x4096x4x32 : Shape := ⟨4, ![16, 4096, 4, 32]⟩
abbrev S16x4096x4x20 : Shape := ⟨4, ![16, 4096, 4, 20]⟩
abbrev S16x4096x4x12 : Shape := ⟨4, ![16, 4096, 4, 12]⟩
abbrev S16x4096x4x128 : Shape := ⟨4, ![16, 4096, 4, 128]⟩
abbrev S16x4096x512 : Shape := ⟨3, ![16, 4096, 512]⟩
abbrev S16x4096x256 : Shape := ⟨3, ![16, 4096, 256]⟩
abbrev S1x512x512 : Shape := ⟨3, ![1, 512, 512]⟩
abbrev S1x4096x512 : Shape := ⟨3, ![1, 4096, 512]⟩
abbrev S1x512x256 : Shape := ⟨3, ![1, 512, 256]⟩
abbrev S4x512x128 : Shape := ⟨3, ![4, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 74
  | .vmem => 10
  | .smem => 0
  | _ => 0

abbrev bufTy : (tb : Table) → Fin (tcTables nBuf tb) → BufTy
  | .hbm, ⟨0, _⟩ => ⟨S16x4096x4x64, .f32⟩
  | .hbm, ⟨1, _⟩ => ⟨S16x4096x4x64, .f32⟩
  | .hbm, ⟨2, _⟩ => ⟨S16x4096x4x64, .f32⟩
  | .hbm, ⟨3, _⟩ => ⟨S16x4096x4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16x4096x4, .f32⟩
  | .hbm, ⟨12, _⟩ => ⟨S16x4096x4, .f32⟩
  | .hbm, ⟨13, _⟩ => ⟨S16x4096x4, .bf16⟩
  | .hbm, ⟨14, _⟩ => ⟨S16x4096x4, .f32⟩
  | .hbm, ⟨15, _⟩ => ⟨S16x4096x4, .f32⟩
  | .hbm, ⟨16, _⟩ => ⟨S16x4096x4, .bf16⟩
  | .hbm, ⟨17, _⟩ => ⟨S16x4096x4, .f32⟩
  | .hbm, ⟨18, _⟩ => ⟨S16x4096x4, .f32⟩
  | .hbm, ⟨19, _⟩ => ⟨S16x4096x4, .bf16⟩
  | .hbm, ⟨20, _⟩ => ⟨S16x4096x4, .f32⟩
  | .hbm, ⟨21, _⟩ => ⟨S16x4096x4, .f32⟩
  | .hbm, ⟨22, _⟩ => ⟨S16x4096x4, .f32⟩
  | .hbm, ⟨23, _⟩ => ⟨S16x4096x4x1, .f32⟩
  | .hbm, ⟨24, _⟩ => ⟨S16x4096x4x1, .f32⟩
  | .hbm, ⟨25, _⟩ => ⟨S16x4096x4x1, .f32⟩
  | .hbm, ⟨26, _⟩ => ⟨S16x4096x4x3, .f32⟩
  | .hbm, ⟨27, _⟩ => ⟨S16x4096x1x12, .f32⟩
  | .hbm, ⟨28, _⟩ => ⟨S12, .i32⟩
  | .hbm, ⟨29, _⟩ => ⟨S1x12, .i32⟩
  | .hbm, ⟨30, _⟩ => ⟨S_, .i32⟩
  | .hbm, ⟨31, _⟩ => ⟨S_, .i32⟩
  | .hbm, ⟨32, _⟩ => ⟨S1x12, .i32⟩
  | .hbm, ⟨33, _⟩ => ⟨S1x12, .i32⟩
  | .hbm, ⟨34, _⟩ => ⟨S1x12, .i32⟩
  | .hbm, ⟨35, _⟩ => ⟨S_, .i32⟩
  | .hbm, ⟨36, _⟩ => ⟨S1x12, .i32⟩
  | .hbm, ⟨37, _⟩ => ⟨S1x12, .i1⟩
  | .hbm, ⟨38, _⟩ => ⟨S1x12, .i32⟩
  | .hbm, ⟨39, _⟩ => ⟨S1x12, .i32⟩
  | .hbm, ⟨40, _⟩ => ⟨S_, .i32⟩
  | .hbm, ⟨41, _⟩ => ⟨S1x12, .i32⟩
  | .hbm, ⟨42, _⟩ => ⟨S1x12, .i1⟩
  | .hbm, ⟨43, _⟩ => ⟨S1x12, .i1⟩
  | .hbm, ⟨44, _⟩ => ⟨S_, .i32⟩
  | .hbm, ⟨45, _⟩ => ⟨S1x12, .i32⟩
  | .hbm, ⟨46, _⟩ => ⟨S1x12, .i32⟩
  | .hbm, ⟨47, _⟩ => ⟨S1x12, .i32⟩
  | .hbm, ⟨48, _⟩ => ⟨S4, .i32⟩
  | .hbm, ⟨49, _⟩ => ⟨S4x1, .i32⟩
  | .hbm, ⟨50, _⟩ => ⟨S4x12, .i32⟩
  | .hbm, ⟨51, _⟩ => ⟨S4x12, .i32⟩
  | .hbm, ⟨52, _⟩ => ⟨S4x12, .i1⟩
  | .hbm, ⟨53, _⟩ => ⟨S4x12, .f32⟩
  | .hbm, ⟨54, _⟩ => ⟨S_, .f32⟩
  | .hbm, ⟨55, _⟩ => ⟨S16x4096x4x32, .f32⟩
  | .hbm, ⟨56, _⟩ => ⟨S_, .f32⟩
  | .hbm, ⟨57, _⟩ => ⟨S16x4096x4x20, .f32⟩
  | .hbm, ⟨58, _⟩ => ⟨S16x4096x4x64, .f32⟩
  | .hbm, ⟨59, _⟩ => ⟨S16x4096x4x64, .f32⟩
  | .hbm, ⟨60, _⟩ => ⟨S16x4096x4x12, .f32⟩
  | .hbm, ⟨61, _⟩ => ⟨S16x4096x4x128, .f32⟩
  | .hbm, ⟨62, _⟩ => ⟨S16x4096x4x12, .f32⟩
  | .hbm, ⟨63, _⟩ => ⟨S16x4096x4x128, .f32⟩
  | .hbm, ⟨64, _⟩ => ⟨S_, .f32⟩
  | .hbm, ⟨65, _⟩ => ⟨S16x4096x4x64, .f32⟩
  | .hbm, ⟨66, _⟩ => ⟨S16x4096x4x128, .f32⟩
  | .hbm, ⟨67, _⟩ => ⟨S16x4096x512, .f32⟩
  | .hbm, ⟨68, _⟩ => ⟨S16x4096x512, .bf16⟩
  | .hbm, ⟨69, _⟩ => ⟨S16x4096x512, .f32⟩
  | .hbm, ⟨70, _⟩ => ⟨S16x4096x512, .bf16⟩
  | .hbm, ⟨71, _⟩ => ⟨S16x4096x512, .f32⟩
  | .hbm, ⟨72, _⟩ => ⟨S16x4096x512, .bf16⟩
  | .hbm, ⟨73, _⟩ => ⟨S16x4096x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x512x128, .f32⟩
  | .local _ .vmem, ⟨9, _⟩ => ⟨S4x512x128, .f32⟩
  | _, _ => ⟨S16x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_7 : BitVec 32 := 1#32
  ⟨c0_i32_6, v15, c1_i32_7⟩
def k0_mult1 (i : grid0.Coords) (k0_t1 : Fin (k0_t1_loop i).trips) : BitVec 32 :=
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  v190
def k0_off1 (i : grid0.Coords) (k0_t1 : Fin (k0_t1_loop i).trips) : Fin 3 → Nat :=
  let c0_118 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v194 : Index := Scalar.indexCast v191
  let c0_119 : Index := 0#32
  ![0, v194.toNat, 0]
def k0_off2 (i : grid0.Coords) (k0_t1 : Fin (k0_t1_loop i).trips) : Fin 3 → Nat :=
  let c0_124 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v200 : Index := Scalar.indexCast v191
  let c128_125 : Index := 128#32
  ![0, v200.toNat, 128]
def k0_off3 (i : grid0.Coords) (k0_t1 : Fin (k0_t1_loop i).trips) : Fin 3 → Nat :=
  let c0_130 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v206 : Index := Scalar.indexCast v191
  let c256_131 : Index := 256#32
  ![0, v206.toNat, 256]
def k0_off4 (i : grid0.Coords) (k0_t1 : Fin (k0_t1_loop i).trips) : Fin 3 → Nat :=
  let c0_136 : Index := 0#32
  let c0_i32_6 : BitVec 32 := 0#32
  let c1_i32_7 : BitVec 32 := 1#32
  let arg8 : BitVec 32 := Scf.iv c0_i32_6 c1_i32_7 k0_t1
  let c512_i32_114 : BitVec 32 := 512#32
  let v190 : BitVec 32 := Scalar.muli arg8 c512_i32_114
  let v191 : BitVec 32 := v190
  let v212 : Index := Scalar.indexCast v191
  let c384_137 : Index := 384#32
  ![0, v212.toNat, 384]
@[reducible] def k0_t2_loop (i : grid0.Coords) : Scf.Loop 32 :=
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let v12 : BitVec 32 := Scalar.addi c0_i32_6 v11
  let c1_i32_8 : BitVec 32 := 1#32
  ⟨v15, v12, c1_i32_8⟩
def k0_mult2 (i : grid0.Coords) (k0_t2 : Fin (k0_t2_loop i).trips) : BitVec 32 :=
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  v190
def k0_off5 (i : grid0.Coords) (k0_t2 : Fin (k0_t2_loop i).trips) : Fin 3 → Nat :=
  let c0_118 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v194 : Index := Scalar.indexCast v191
  let c0_119 : Index := 0#32
  ![0, v194.toNat, 0]
def k0_off6 (i : grid0.Coords) (k0_t2 : Fin (k0_t2_loop i).trips) : Fin 3 → Nat :=
  let c0_124 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v200 : Index := Scalar.indexCast v191
  let c128_125 : Index := 128#32
  ![0, v200.toNat, 128]
def k0_off7 (i : grid0.Coords) (k0_t2 : Fin (k0_t2_loop i).trips) : Fin 3 → Nat :=
  let c0_130 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v206 : Index := Scalar.indexCast v191
  let c256_131 : Index := 256#32
  ![0, v206.toNat, 256]
def k0_off8 (i : grid0.Coords) (k0_t2 : Fin (k0_t2_loop i).trips) : Fin 3 → Nat :=
  let c0_136 : Index := 0#32
  let c0_i32_6 : BitVec 32 := 0#32
  let arg1 : BitVec 32 := BitVec.ofNat 32 (i 1).val
  let v11 : BitVec 32 := Scalar.subi arg1 c0_i32_6
  let c1_i32 : BitVec 32 := 1#32
  let v13 : BitVec 32 := Scalar.divsi v11 c1_i32
  let v14 : BitVec 32 := Scalar.muli v13 c1_i32
  let v15 : BitVec 32 := Scalar.addi c0_i32_6 v14
  let c1_i32_8 : BitVec 32 := 1#32
  let arg8 : BitVec 32 := Scf.iv v15 c1_i32_8 k0_t2
  let c512_i32_114 : BitVec 32 := 512#32
  let v190 : BitVec 32 := Scalar.muli arg8 c512_i32_114
  let v191 : BitVec 32 := v190
  let v212 : Index := Scalar.indexCast v191
  let c384_137 : Index := 384#32
  ![0, v212.toNat, 384]
def k0_mult3 (i : grid0.Coords) : BitVec 32 :=
  let arg1 : BitVec 32 := BitVec.ofNat 32 (i 1).val
  let c512_i32 : BitVec 32 := 512#32
  let v16 : BitVec 32 := Scalar.muli arg1 c512_i32
  v16
def k0_off9 (i : grid0.Coords) : Fin 3 → Nat :=
  let c0_15 : Index := 0#32
  let arg1 : BitVec 32 := BitVec.ofNat 32 (i 1).val
  let c512_i32 : BitVec 32 := 512#32
  let v16 : BitVec 32 := Scalar.muli arg1 c512_i32
  let v17 : BitVec 32 := v16
  let v25 : Index := Scalar.indexCast v17
  let c0_16 : Index := 0#32
  ![0, v25.toNat, 0]
def k0_off10 (i : grid0.Coords) : Fin 3 → Nat :=
  let c0_20 : Index := 0#32
  let arg1 : BitVec 32 := BitVec.ofNat 32 (i 1).val
  let c512_i32 : BitVec 32 := 512#32
  let v16 : BitVec 32 := Scalar.muli arg1 c512_i32
  let v17 : BitVec 32 := v16
  let v32 : Index := Scalar.indexCast v17
  let c128_21 : Index := 128#32
  ![0, v32.toNat, 128]
def k0_off11 (i : grid0.Coords) : Fin 3 → Nat :=
  let c0_25 : Index := 0#32
  let arg1 : BitVec 32 := BitVec.ofNat 32 (i 1).val
  let c512_i32 : BitVec 32 := 512#32
  let v16 : BitVec 32 := Scalar.muli arg1 c512_i32
  let v17 : BitVec 32 := v16
  let v39 : Index := Scalar.indexCast v17
  let c256_26 : Index := 256#32
  ![0, v39.toNat, 256]
def k0_off12 (i : grid0.Coords) : Fin 3 → Nat :=
  let c0_30 : Index := 0#32
  let arg1 : BitVec 32 := BitVec.ofNat 32 (i 1).val
  let c512_i32 : BitVec 32 := 512#32
  let v16 : BitVec 32 := Scalar.muli arg1 c512_i32
  let v17 : BitVec 32 := v16
  let v46 : Index := Scalar.indexCast v17
  let c384_31 : Index := 384#32
  ![0, v46.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FoxIdeal.lean ====
variable {F : FTy → Type} [FloatOps F] [Named F]
def κ : String → Option EReal := fun
  | "mask" => some ⊥
  | _ => none
-- ==== FoxReferenceIdeal.lean ====
abbrev S16x4096x4x64 : Shape := ⟨4, ![16, 4096, 4, 64]⟩
abbrev S16x4096x4 : Shape := ⟨3, ![16, 4096, 4]⟩
abbrev S16x4x4096 : Shape := ⟨3, ![16, 4, 4096]⟩
abbrev S16x4x4096x4096 : Shape := ⟨4, ![16, 4, 4096, 4096]⟩
abbrev S_ : Shape := ⟨0, ![]⟩
abbrev S16x4x4096x1 : Shape := ⟨4, ![16, 4, 4096, 1]⟩
abbrev S16x4x1x4096 : Shape := ⟨4, ![16, 4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4x64x4096 : Shape := ⟨4, ![16, 4, 64, 4096]⟩
abbrev S16x4096x256 : Shape := ⟨3, ![16, 4096, 256]⟩

abbrev nBuf : Space → Nat
  | .hbm => 49
  | .vmem => 0
  | .smem => 0
  | _ => 0

abbrev bufTy : (tb : Table) → Fin (tcTables nBuf tb) → BufTy
  | .hbm, ⟨0, _⟩ => ⟨S16x4096x4x64, .f32⟩
  | .hbm, ⟨1, _⟩ => ⟨S16x4096x4x64, .f32⟩
  | .hbm, ⟨2, _⟩ => ⟨S16x4096x4x64, .f32⟩
  | .hbm, ⟨3, _⟩ => ⟨S16x4096x4, .f32⟩
  | .hbm, ⟨4, _⟩ => ⟨S16x4x4096, .f32⟩
  | .hbm, ⟨5, _⟩ => ⟨S16x4x4096x4096, .f32⟩
  | .hbm, ⟨6, _⟩ => ⟨S_, .f32⟩
  | .hbm, ⟨7, _⟩ => ⟨S16x4x4096x4096, .f32⟩
  | .hbm, ⟨8, _⟩ => ⟨S16x4x4096x4096, .f32⟩
  | .hbm, ⟨9, _⟩ => ⟨S16x4x4096x1, .f32⟩
  | .hbm, ⟨10, _⟩ => ⟨S16x4x4096x4096, .f32⟩
  | .hbm, ⟨11, _⟩ => ⟨S16x4x4096x4096, .f32⟩
  | .hbm, ⟨12, _⟩ => ⟨S16x4x1x4096, .f32⟩
  | .hbm, ⟨13, _⟩ => ⟨S16x4x4096x4096, .f32⟩
  | .hbm, ⟨14, _⟩ => ⟨S16x4x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S16x4x4096x4096, .i1⟩
  | .hbm, ⟨24, _⟩ => ⟨S16x4x4096x4096, .f32⟩
  | .hbm, ⟨25, _⟩ => ⟨S16x4x4096x4096, .f32⟩
  | .hbm, ⟨26, _⟩ => ⟨S_, .f32⟩
  | .hbm, ⟨27, _⟩ => ⟨S16x4x4096, .f32⟩
  | .hbm, ⟨28, _⟩ => ⟨S16x4x4096x1, .f32⟩
  | .hbm, ⟨29, _⟩ => ⟨S16x4x4096x4096, .f32⟩
  | .hbm, ⟨30, _⟩ => ⟨S16x4x4096x4096, .f32⟩
  | .hbm, ⟨31, _⟩ => ⟨S16x4x4096x4096, .f32⟩
  | .hbm, ⟨32, _⟩ => ⟨S_, .f32⟩
  | .hbm, ⟨33, _⟩ => ⟨S_, .f32⟩
  | .hbm, ⟨34, _⟩ => ⟨S16x4x4096x4096, .i1⟩
  | .hbm, ⟨35, _⟩ => ⟨S16x4x4096x4096, .f32⟩
  | .hbm, ⟨36, _⟩ => ⟨S16x4x4096x4096, .f32⟩
  | .hbm, ⟨37, _⟩ => ⟨S_, .f32⟩
  | .hbm, ⟨38, _⟩ => ⟨S16x4x4096, .f32⟩
  | .hbm, ⟨39, _⟩ => ⟨S16x4x4096x1, .f32⟩
  | .hbm, ⟨40, _⟩ => ⟨S_, .f32⟩
  | .hbm, ⟨41, _⟩ => ⟨S16x4x4096x1, .f32⟩
  | .hbm, ⟨42, _⟩ => ⟨S16x4x4096x1, .f32⟩
  | .hbm, ⟨43, _⟩ => ⟨S16x4x4096x4096, .f32⟩
  | .hbm, ⟨44, _⟩ => ⟨S16x4x4096x4096, .f32⟩
  | .hbm, ⟨45, _⟩ => ⟨S16x4x64x4096, .f32⟩
  | .hbm, ⟨46, _⟩ => ⟨S16x4096x4x64, .f32⟩
  | .hbm, ⟨47, _⟩ => ⟨S16x4096x256, .f32⟩
  | .hbm, ⟨48, _⟩ => ⟨S16x4096x256, .bf16⟩
  | _, _ => ⟨S16x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Ffn.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S8x1280 : Shape := ⟨2, ![8, 1280]⟩
abbrev S520x1280 : Shape := ⟨2, ![520, 1280]⟩
abbrev S3x1280 : Shape := ⟨2, ![3, 1280]⟩
abbrev S1x1280 : Shape := ⟨2, ![1, 1280]⟩
abbrev S1280x1024 : Shape := ⟨2, ![1280, 1024]⟩
abbrev S1024x1536 : Shape := ⟨2, ![1024, 1536]⟩
abbrev S512x1536 : Shape := ⟨2, ![512, 1536]⟩
abbrev S8x1536 : Shape := ⟨2, ![8, 1536]⟩
abbrev S520x1536 : Shape := ⟨2, ![520, 1536]⟩
abbrev S3x1536 : Shape := ⟨2, ![3, 1536]⟩
abbrev S1x1536 : Shape := ⟨2, ![1, 1536]⟩
abbrev S1536x1024 : Shape := ⟨2, ![1536, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S1x5632, .f32⟩
  | .hbm, ⟨11, _⟩ => ⟨S2816x1024, .bf16⟩
  | .hbm, ⟨12, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x512x1024, .f32⟩
  | .local _ .vmem, ⟨9, _⟩ => ⟨S1x512x1024, .f32⟩
  | .local _ .vmem, ⟨10, _⟩ => ⟨S8x5632, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnReferenceIdeal.lean ====
abbrev S16x4096x1024 : Shape := ⟨3, ![16, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x5632, .f32⟩
  | .hbm, ⟨24, _⟩ => ⟨S_, .i32⟩
  | .hbm, ⟨25, _⟩ => ⟨S_, .f32⟩
  | .hbm, ⟨26, _⟩ => ⟨S16x4098x5632, .f32⟩
  | .hbm, ⟨27, _⟩ => ⟨S1x5632, .f32⟩
  | .hbm, ⟨28, _⟩ => ⟨S5632, .f32⟩
  | .hbm, ⟨29, _⟩ => ⟨S16x4096x5632, .f32⟩
  | .hbm, ⟨30, _⟩ => ⟨S1x1x5632, .f32⟩
  | .hbm, ⟨31, _⟩ => ⟨S16x4096x5632, .f32⟩
  | .hbm, ⟨32, _⟩ => ⟨S16x4096x5632, .f32⟩
  | .hbm, ⟨33, _⟩ => ⟨S1x1x5632, .f32⟩
  | .hbm, ⟨34, _⟩ => ⟨S16x4096x5632, .f32⟩
  | .hbm, ⟨35, _⟩ => ⟨S16x4096x5632, .f32⟩
  | .hbm, ⟨36, _⟩ => ⟨S1x5632, .f32⟩
  | .hbm, ⟨37, _⟩ => ⟨S5632, .f32⟩
  | .hbm, ⟨38, _⟩ => ⟨S16x4096x5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S16x4096x5632, .f32⟩
  | .hbm, ⟨43, _⟩ => ⟨S1x5632, .f32⟩
  | .hbm, ⟨44, _⟩ => ⟨S5632, .f32⟩
  | .hbm, ⟨45, _⟩ => ⟨S16x4096x5632, .f32⟩
  | .hbm, ⟨46, _⟩ => ⟨S1x1x5632, .f32⟩
  | .hbm, ⟨47, _⟩ => ⟨S16x4096x5632, .f32⟩
  | .hbm, ⟨48, _⟩ => ⟨S16x4096x5632, .f32⟩
  | .hbm, ⟨49, _⟩ => ⟨S16x4096x5632, .f32⟩
  | .hbm, ⟨50, _⟩ => ⟨S16x4096x2816, .f32⟩
  | .hbm, ⟨51, _⟩ => ⟨S16x4096x2816, .f32⟩
  | .hbm, ⟨52, _⟩ => ⟨S16x4096x2816, .f32⟩
  | .hbm, ⟨53, _⟩ => ⟨S16x4096x2816, .f32⟩
  | .hbm, ⟨54, _⟩ => ⟨S_, .f32⟩
  | .hbm, ⟨55, _⟩ => ⟨S16x4096x2816, .f32⟩
  | .hbm, ⟨56, _⟩ => ⟨S16x4096x2816, .f32⟩
  | .hbm, ⟨57, _⟩ => ⟨S_, .f32⟩
  | .hbm, ⟨58, _⟩ => ⟨S16x4096x2816, .f32⟩
  | .hbm, ⟨59, _⟩ => ⟨S16x4096x2816, .f32⟩
  | .hbm, ⟨60, _⟩ => ⟨S16x4096x2816, .f32⟩
  | .hbm, ⟨61, _⟩ => ⟨S16x4096x2816, .f32⟩
  | .hbm, ⟨62, _⟩ => ⟨S16x4096x1024, .f32⟩
  | .hbm, ⟨63, _⟩ => ⟨S16x4096x1024, .f32⟩
  | .hbm, ⟨64, _⟩ => ⟨S_, .f32⟩
  | .hbm, ⟨65, _⟩ => ⟨S16x4096, .f32⟩
  | .hbm, ⟨66, _⟩ => ⟨S16x4096x1, .f32⟩
  | .hbm, ⟨67, _⟩ => ⟨S_, .f32⟩
  | .hbm, ⟨68, _⟩ => ⟨S16x4096x1, .f32⟩
  | .hbm, ⟨69, _⟩ => ⟨S16x4096x1, .f32⟩
  | .hbm, ⟨70, _⟩ => ⟨S_, .f32⟩
  | .hbm, ⟨71, _⟩ => ⟨S16x4096x1, .f32⟩
  | .hbm, ⟨72, _⟩ => ⟨S16x4096x1, .f32⟩
  | .hbm, ⟨73, _⟩ => ⟨S16x4096x1, .f32⟩
  | .hbm, ⟨74, _⟩ => ⟨S16x4096x1024, .f32⟩
  | .hbm, ⟨75, _⟩ => ⟨S16x4096x1024, .f32⟩
  | .hbm, ⟨76, _⟩ => ⟨S1x1x1024, .f32⟩
  | .hbm, ⟨77, _⟩ => ⟨S16x4096x1024, .f32⟩
  | .hbm, ⟨78, _⟩ => ⟨S16x4096x1024, .f32⟩
  | .hbm, ⟨79, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_2 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Merge.lean ====
abbrev S16x4096x1024 : Shape := ⟨3, ![16, 4096, 1024]⟩
abbrev S16x4096x256 : Shape := ⟨3, ![16, 4096, 256]⟩
abbrev S16x4096x128 : Shape := ⟨3, ![16, 4096, 128]⟩
abbrev S1024 : Shape := ⟨1, ![1024]⟩
abbrev S4x1024x1024 : Shape := ⟨3, ![4, 1024, 1024]⟩
abbrev S256x1024 : Shape := ⟨2, ![256, 1024]⟩
abbrev S128x1024 : Shape := ⟨2, ![128, 1024]⟩
abbrev S1024x1024 : Shape := ⟨2, ![1024, 1024]⟩
abbrev S1x1024 : Shape := ⟨2, ![1, 1024]⟩
abbrev S64x1024 : Shape := ⟨2, ![64, 1024]⟩
abbrev S1x512x1024 : Shape := ⟨3, ![1, 512, 1024]⟩
abbrev S1x512x256 : Shape := ⟨3, ![1, 512, 256]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S1x1024x1024 : Shape := ⟨3, ![1, 1024, 1024]⟩

abbrev nBuf : Space → Nat
  | .hbm => 29
  | .vmem => 20
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .f32⟩
  | .hbm, ⟨2, _⟩ => ⟨S16x4096x128, .f32⟩
  | .hbm, ⟨3, _⟩ => ⟨S16x4096x256, .f32⟩
  | .hbm, ⟨4, _⟩ => ⟨S16x4096x256, .f32⟩
  | .hbm, ⟨5, _⟩ => ⟨S1024, .f32⟩
  | .hbm, ⟨6, _⟩ => ⟨S1024, .f32⟩
  | .hbm, ⟨7, _⟩ => ⟨S4x1024x1024, .f32⟩
  | .hbm, ⟨8, _⟩ => ⟨S256x1024, .f32⟩
  | .hbm, ⟨9, _⟩ => ⟨S128x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S16x4096x256, .bf16⟩
  | .hbm, ⟨14, _⟩ => ⟨S16x4096x128, .bf16⟩
  | .hbm, ⟨15, _⟩ => ⟨S16x4096x256, .bf16⟩
  | .hbm, ⟨16, _⟩ => ⟨S16x4096x256, .bf16⟩
  | .hbm, ⟨17, _⟩ => ⟨S1x1024, .f32⟩
  | .hbm, ⟨18, _⟩ => ⟨S1x1024, .f32⟩
  | .hbm, ⟨19, _⟩ => ⟨S4x1024x1024, .bf16⟩
  | .hbm, ⟨20, _⟩ => ⟨S256x1024, .bf16⟩
  | .hbm, ⟨21, _⟩ => ⟨S64x1024, .f32⟩
  | .hbm, ⟨22, _⟩ => ⟨S64x1024, .f32⟩
  | .hbm, ⟨23, _⟩ => ⟨S128x1024, .f32⟩
  | .hbm, ⟨24, _⟩ => ⟨S128x1024, .bf16⟩
  | .hbm, ⟨25, _⟩ => ⟨S256x1024, .bf16⟩
  | .hbm, ⟨26, _⟩ => ⟨S256x1024, .bf16⟩
  | .hbm, ⟨27, _⟩ => ⟨S1024x1024, .bf16⟩
  | .hbm, ⟨28, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x1024, .f32⟩
  | .local _ .vmem, ⟨11, _⟩ => ⟨S1x1024, .f32⟩
  | .local _ .vmem, ⟨12, _⟩ => ⟨S4x1024x1024, .bf16⟩
  | .local _ .vmem, ⟨13, _⟩ => ⟨S256x1024, .bf16⟩
  | .local _ .vmem, ⟨14, _⟩ => ⟨S128x1024, .bf16⟩
  | .local _ .vmem, ⟨15, _⟩ => ⟨S256x1024, .bf16⟩
  | .local _ .vmem, ⟨16, _⟩ => ⟨S256x1024, .bf16⟩
  | .local _ .vmem, ⟨17, _⟩ => ⟨S1024x1024, .bf16⟩
  | .local _ .vmem, ⟨18, _⟩ => ⟨S1x512x1024, .f32⟩
  | .local _ .vmem, ⟨19, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeReferenceIdeal.lean ====
abbrev S16x4096x1024 : Shape := ⟨3, ![16, 4096, 1024]⟩
abbrev S16x4096x256 : Shape := ⟨3, ![16, 4096, 256]⟩
abbrev S16x4096x128 : Shape := ⟨3, ![16, 4096, 128]⟩
abbrev S1024 : Shape := ⟨1, ![1024]⟩
abbrev S4x1024x1024 : Shape := ⟨3, ![4, 1024, 1024]⟩
abbrev S256x1024 : Shape := ⟨2, ![256, 1024]⟩
abbrev S128x1024 : Shape := ⟨2, ![128, 1024]⟩
abbrev S1024x1024 : Shape := ⟨2, ![1024, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x64 : Shape := ⟨3, ![16, 4096, 64]⟩
abbrev S1x1024x1024 : Shape := ⟨3, ![1, 1024, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .f32⟩
  | .hbm, ⟨2, _⟩ => ⟨S16x4096x128, .f32⟩
  | .hbm, ⟨3, _⟩ => ⟨S16x4096x256, .f32⟩
  | .hbm, ⟨4, _⟩ => ⟨S16x4096x256, .f32⟩
  | .hbm, ⟨5, _⟩ => ⟨S1024, .f32⟩
  | .hbm, ⟨6, _⟩ => ⟨S1024, .f32⟩
  | .hbm, ⟨7, _⟩ => ⟨S4x1024x1024, .f32⟩
  | .hbm, ⟨8, _⟩ => ⟨S256x1024, .f32⟩
  | .hbm, ⟨9, _⟩ => ⟨S128x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S16x4096x1024, .f32⟩
  | .hbm, ⟨14, _⟩ => ⟨S_, .f32⟩
  | .hbm, ⟨15, _⟩ => ⟨S16x4096, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S16x4096x1, .f32⟩
  | .hbm, ⟨24, _⟩ => ⟨S16x4096x1024, .f32⟩
  | .hbm, ⟨25, _⟩ => ⟨S16x4096x1024, .f32⟩
  | .hbm, ⟨26, _⟩ => ⟨S1x1x1024, .f32⟩
  | .hbm, ⟨27, _⟩ => ⟨S16x4096x1024, .f32⟩
  | .hbm, ⟨28, _⟩ => ⟨S16x4096x1024, .f32⟩
  | .hbm, ⟨29, _⟩ => ⟨S16x4096x64, .f32⟩
  | .hbm, ⟨30, _⟩ => ⟨S16x4096x64, .f32⟩
  | .hbm, ⟨31, _⟩ => ⟨S16x4096x128, .f32⟩
  | .hbm, ⟨32, _⟩ => ⟨S1x1024x1024, .f32⟩
  | .hbm, ⟨33, _⟩ => ⟨S1024x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S_, .f32⟩
  | .hbm, ⟨38, _⟩ => ⟨S16x4096x1024, .f32⟩
  | .hbm, ⟨39, _⟩ => ⟨S16x4096x1024, .f32⟩
  | .hbm, ⟨40, _⟩ => ⟨S_, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S16x4096x1024, .f32⟩
  | .hbm, ⟨45, _⟩ => ⟨S1x1024x1024, .f32⟩
  | .hbm, ⟨46, _⟩ => ⟨S1024x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S_, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S1x1024x1024, .f32⟩
  | .hbm, ⟨60, _⟩ => ⟨S1024x1024, .f32⟩
  | .hbm, ⟨61, _⟩ => ⟨S16x4096x1024, .f32⟩
  | .hbm, ⟨62, _⟩ => ⟨S16x4096x1024, .f32⟩
  | .hbm, ⟨63, _⟩ => ⟨S16x4096x1024, .f32⟩
  | .hbm, ⟨64, _⟩ => ⟨S_, .f32⟩
  | .hbm, ⟨65, _⟩ => ⟨S16x4096x1024, .f32⟩
  | .hbm, ⟨66, _⟩ => ⟨S16x4096x1024, .f32⟩
  | .hbm, ⟨67, _⟩ => ⟨S_, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S1x1024x1024, .f32⟩
  | .hbm, ⟨74, _⟩ => ⟨S1024x1024, .f32⟩
  | .hbm, ⟨75, _⟩ => ⟨S16x4096x1024, .f32⟩
  | .hbm, ⟨76, _⟩ => ⟨S16x4096x1024, .f32⟩
  | .hbm, ⟨77, _⟩ => ⟨S16x4096x1024, .f32⟩
  | .hbm, ⟨78, _⟩ => ⟨S_, .f32⟩
  | .hbm, ⟨79, _⟩ => ⟨S16x4096x1024, .f32⟩
  | .hbm, ⟨80, _⟩ => ⟨S16x4096x1024, .f32⟩
  | .hbm, ⟨81, _⟩ => ⟨S_, .f32⟩
  | .hbm, ⟨82, _⟩ => ⟨S16x4096x1024, .f32⟩
  | .hbm, ⟨83, _⟩ => ⟨S16x4096x1024, .f32⟩
  | .hbm, ⟨84, _⟩ => ⟨S16x4096x1024, .f32⟩
  | .hbm, ⟨85, _⟩ => ⟨S16x4096x1024, .f32⟩
  | .hbm, ⟨86, _⟩ => ⟨S16x4096x1024, .f32⟩
  | .hbm, ⟨87, _⟩ => ⟨S16x4096x1024, .f32⟩
  | .hbm, ⟨88, _⟩ => ⟨S16x4096x1024, .f32⟩
  | .hbm, ⟨89, _⟩ => ⟨S_, .f32⟩
  | .hbm, ⟨90, _⟩ => ⟨S16x4096, .f32⟩
  | .hbm, ⟨91, _⟩ => ⟨S16x4096x1, .f32⟩
  | .hbm, ⟨92, _⟩ => ⟨S_, .f32⟩
  | .hbm, ⟨93, _⟩ => ⟨S16x4096x1, .f32⟩
  | .hbm, ⟨94, _⟩ => ⟨S16x4096x1, .f32⟩
  | .hbm, ⟨95, _⟩ => ⟨S_, .f32⟩
  | .hbm, ⟨96, _⟩ => ⟨S16x4096x1, .f32⟩
  | .hbm, ⟨97, _⟩ => ⟨S16x4096x1, .f32⟩
  | .hbm, ⟨98, _⟩ => ⟨S16x4096x1, .f32⟩
  | .hbm, ⟨99, _⟩ => ⟨S16x4096x1024, .f32⟩
  | .hbm, ⟨100, _⟩ => ⟨S16x4096x1024, .f32⟩
  | .hbm, ⟨101, _⟩ => ⟨S1x1x1024, .f32⟩
  | .hbm, ⟨102, _⟩ => ⟨S16x4096x1024, .f32⟩
  | .hbm, ⟨103, _⟩ => ⟨S16x4096x1024, .f32⟩
  | .hbm, ⟨104, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Proof.RowSpec.lean ====
/- What one row of the feed-forward and merge sub-layers is, in plain formulas over the extended reals: the functions both the
   kernels and their references are shown to compute. -/
module

public import Idealize.ShloMosaic.PureOps.Ideal

@[expose] public section

noncomputable section

namespace Cert.RowSpec

open Idealize.ShloMosaic

/-- The root-mean-square norm of a row `x` scaled by `g`, at coordinate `k`: `x k · rsqrt(mean x² + ε) · g k`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The logistic function, written `1 / (1 + exp(-x))`. -/
def logi (x : EReal) : EReal := Ideal.div 1 (1 + Ideal.exp (-x))

/-- The two halves of a row of 128 entries exchanged. -/
def swap (j : Fin 128) : Fin 128 := ⟨(j.val + 64) % 128, Nat.mod_lt _ (by decide)⟩

theorem swap_swap (j : Fin 128) : swap (swap j) = j := Fin.ext (by have := j.isLt; simp only [swap]; omega)

/-- A sum over a row is the sum over the row with its halves exchanged. -/
theorem sum_swap (f : Fin 128 → EReal) : ∑ j, f (swap j) = ∑ j, f j :=
  Equiv.sum_comp ⟨swap, swap, swap_swap, swap_swap⟩ f

/-- One row of the merge: the four branches' projections, each gated by the logistic function of the normed row's own
    projection, added; then projected, normed and added to the row. -/
def merged (x : Fin 1024 → EReal) (oa : Fin 256 → EReal) (ob : Fin 128 → EReal) (oc od : Fin 256 → EReal) (gpre : Fin 1024 → EReal)
    (wg : Fin 4 → Fin 1024 → Fin 1024 → EReal) (wa : Fin 256 → Fin 1024 → EReal) (wb : Fin 128 → Fin 1024 → EReal)
    (wc wd : Fin 256 → Fin 1024 → EReal) (e : Fin 1024) : EReal :=
  logi (∑ k, rms x gpre k * wg 0 k e) * (∑ j, oa j * wa j e) + logi (∑ k, rms x gpre k * wg 1 k e) * (∑ j, ob (swap j) * wb j e)
    + logi (∑ k, rms x gpre k * wg 2 k e) * (∑ j, oc j * wc j e) + logi (∑ k, rms x gpre k * wg 3 k e) * (∑ j, od j * wd j e)

/-- Exchanging the halves of the second branch's row is exchanging those of its weight's rows. -/
theorem merged_swap (x : Fin 1024 → EReal) (oa : Fin 256 → EReal) (ob : Fin 128 → EReal) (oc od : Fin 256 → EReal) (gpre : Fin 1024 → EReal)
    (wg : Fin 4 → Fin 1024 → Fin 1024 → EReal) (wa : Fin 256 → Fin 1024 → EReal) (wb : Fin 128 → Fin 1024 → EReal)
    (wc wd : Fin 256 → Fin 1024 → EReal) (e : Fin 1024) :
    merged x oa (fun j => ob (swap j)) oc od gpre wg wa (fun j => wb (swap j)) wc wd e = merged x oa ob oc od gpre wg wa wb wc wd e := by
  simp only [merged]
  rw [sum_swap fun j => ob (swap j) * wb j e]

/-- One row of the merge sub-layer's result. -/
def mergeRow (x : Fin 1024 → EReal) (oa : Fin 256 → EReal) (ob : Fin 128 → EReal) (oc od : Fin 256 → EReal) (gpre gpost : Fin 1024 → EReal)
    (wg : Fin 4 → Fin 1024 → Fin 1024 → EReal) (wa : Fin 256 → Fin 1024 → EReal) (wb : Fin 128 → Fin 1024 → EReal)
    (wc wd : Fin 256 → Fin 1024 → EReal) (wo : Fin 1024 → Fin 1024 → EReal) (d : Fin 1024) : EReal :=
  x d + rms (fun d => ∑ e, merged x oa ob oc od gpre wg wa wb wc wd e * wo e d) gpost d

/-- Row `r - 2` of a tile of 512 rows preceded by the eight rows of `tail`. -/
def lag2 (tail : Fin 8 → EReal) (u : Fin 512 → EReal) (r : Fin 512) : EReal :=
  if h : (8 + r.val + 520 - 2) % 520 < 8 then tail ⟨(8 + r.val + 520 - 2) % 520, h⟩
  else u ⟨(8 + r.val + 520 - 2) % 520 - 8, by have := r.isLt; omega⟩

/-- Row `r - 1` of the same. -/
def lag1 (tail : Fin 8 → EReal) (u : Fin 512 → EReal) (r : Fin 512) : EReal :=
  if h : (8 + r.val + 520 - 1) % 520 < 8 then tail ⟨(8 + r.val + 520 - 1) % 520, h⟩
  else u ⟨(8 + r.val + 520 - 1) % 520 - 8, by have := r.isLt; omega⟩

/-- Row `j` of the last eight rows of a tile. -/
def last8 (j : Fin 8) : Fin 512 := ⟨504 + j.val, by have := j.isLt; omega⟩

/-- One column of the three-tap convolution down a tile. -/
def tap (tail : Fin 8 → EReal) (u : Fin 512 → EReal) (w : Fin 3 → EReal) (b : EReal) (r : Fin 512) : EReal :=
  b + w 0 * lag2 tail u r + w 1 * lag1 tail u r + w 2 * u r

/-- The gated unit: `g · logistic(g) · v`. -/
def glu (g v : EReal) : EReal := g * logi g * v

/-- The row `n` places above row `r` of a sequence, zero above the first row. -/
def above (u : Fin 4096 → EReal) (n : ℕ) (r : Fin 4096) : EReal :=
  if h : r.val < n then 0 else u ⟨r.val - n, by have := r.isLt; omega⟩

/-- One column of the causal three-tap convolution down the sequence. -/
def causal (u : Fin 4096 → EReal) (w : Fin 3 → EReal) (b : EReal) (r : Fin 4096) : EReal :=
  b + w 0 * above u 2 r + w 1 * above u 1 r + w 2 * u r

/-- Column `j` of the values half of the hidden row. -/
def val (j : Fin 2816) : Fin 5632 := ⟨2816 + j.val, by have := j.isLt; omega⟩

/-- Column `j` of the gates half. -/
def gate (j : Fin 2816) : Fin 5632 := ⟨j.val, by have := j.isLt; omega⟩

/-- One row of the feed-forward sub-layer's result, from the row `x` and its convolved hidden row `cv`. -/
def ffnRow (x gpost : Fin 1024 → EReal) (wdn : Fin 2816 → Fin 1024 → EReal) (cv : Fin 5632 → EReal) (d : Fin 1024) : EReal :=
  x d + rms (fun d => ∑ j, glu (cv (gate j)) (cv (val j)) * wdn j d) gpost d

/-- The convolution down tile `i` of a sequence, the tile preceded by the last eight rows of the tile before (zeros before
    the first), is the causal convolution down the sequence. -/
theorem tap_causal (U : Fin 4096 → EReal) (i : ℕ) (hi : i < 8) (tail : Fin 8 → EReal)
    (ht : ∀ j : Fin 8, tail j = if h : i = 0 then 0 else U ⟨512 * i - 8 + j.val, by have := j.isLt; omega⟩)
    (w : Fin 3 → EReal) (b : EReal) (r : Fin 512) :
    tap tail (fun r => U ⟨512 * i + r.val, by have := r.isLt; omega⟩) w b r = causal U w b ⟨512 * i + r.val, by have := r.isLt; omega⟩ := by
  have hr := r.isLt
  have h2 : lag2 tail (fun r => U ⟨512 * i + r.val, by have := r.isLt; omega⟩) r = above U 2 ⟨512 * i + r.val, by omega⟩ := by
    unfold lag2 above
    by_cases h : r.val < 2
    · have e : (8 + r.val + 520 - 2) % 520 = 6 + r.val := by omega
      rw [dif_pos (by omega), ht]
      by_cases h0 : i = 0
      · rw [dif_pos h0, dif_pos (by show 512 * i + r.val < 2; omega)]
      · rw [dif_neg h0, dif_neg (by show ¬512 * i + r.val < 2; omega)]
        exact congrArg U (Fin.ext (by show 512 * i - 8 + (8 + r.val + 520 - 2) % 520 = 512 * i + r.val - 2; omega))
    · have e : (8 + r.val + 520 - 2) % 520 = 6 + r.val := by omega
      rw [dif_neg (by omega), dif_neg (by show ¬512 * i + r.val < 2; omega)]
      exact congrArg U (Fin.ext (by show 512 * i + ((8 + r.val + 520 - 2) % 520 - 8) = 512 * i + r.val - 2; omega))
  have h1 : lag1 tail (fun r => U ⟨512 * i + r.val, by have := r.isLt; omega⟩) r = above U 1 ⟨512 * i + r.val, by omega⟩ := by
    unfold lag1 above
    by_cases h : r.val < 1
    · have e : (8 + r.val + 520 - 1) % 520 = 7 + r.val := by omega
      rw [dif_pos (by omega), ht]
      by_cases h0 : i = 0
      · rw [dif_pos h0, dif_pos (by show 512 * i + r.val < 1; omega)]
      · rw [dif_neg h0, dif_neg (by show ¬512 * i + r.val < 1; omega)]
        exact congrArg U (Fin.ext (by show 512 * i - 8 + (8 + r.val + 520 - 1) % 520 = 512 * i + r.val - 1; omega))
    · have e : (8 + r.val + 520 - 1) % 520 = 7 + r.val := by omega
      rw [dif_neg (by omega), dif_neg (by show ¬512 * i + r.val < 1; omega)]
      exact congrArg U (Fin.ext (by show 512 * i + ((8 + r.val + 520 - 1) % 520 - 8) = 512 * i + r.val - 1; omega))
  unfold tap causal
  rw [h2, h1]

/-- A sum over the 2816 hidden columns, cut at 1280. -/
theorem sum_cut (f : Fin 2816 → EReal) :
    ∑ j, f j = (∑ j : Fin 1280, f ⟨j.val, by have := j.isLt; omega⟩) + ∑ j : Fin 1536, f ⟨1280 + j.val, by have := j.isLt; omega⟩ :=
  Fin.sum_univ_add (a := 1280) (b := 1536) f

end Cert.RowSpec

end
-- ==== Proof.FfnRows.lean ====
/- The feed-forward kernel's body, read one row at a time: its convolved hidden columns, the row it stores and the rows it keeps for the next tile. -/
module

public import proofs.«01_k».proof.Proof.RowSpec
public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Rows

open Idealize.ShloMosaic Idealize.ShloMosaic.TcCoe Idealize.SL.Sem
open Idealize.ShloMosaic.Pipeline (Dat)
open Cert.FfnIdeal Cert.FfnIdeal.Gen Cert.RowSpec

/-- The normed rows. -/
theorem pay3_at (v0 : Vec Ideal S1x512x1024 .f32) (v2 : Vec Ideal S1x1024 .f32) (r : Fin 512) (k : Fin 1024) :
    k0_pay3 v0 v2 (ix2 r k) = rms (fun k => v0 (ix3 0 r k)) (fun k => v2 (ix2 0 k)) k := by
  pointwise [k0_pay3, k0_pay2, rms]

/-- The hidden columns before the convolution. -/
theorem pay6_at (v0 : Vec Ideal S1x512x1024 .f32) (v2 : Vec Ideal S1x1024 .f32) (v : Vec Ideal S1024x1280 .bf16) (r : Fin 512) (k : Fin 1280) :
    k0_pay6 v0 v2 v (ix2 r k) = ∑ j : Fin 1024, k0_pay3 v0 v2 (ix2 r j) * v (ix2 j k) := by
  pointwise [k0_pay6]
theorem pay12_at (u : FVec Ideal S512x1024 .bf16) (v : Vec Ideal S1024x1280 .bf16) (r : Fin 512) (k : Fin 1280) :
    k0_pay12 u v (ix2 r k) = ∑ j : Fin 1024, u (ix2 r j) * v (ix2 j k) := by
  pointwise [k0_pay12]
theorem pay17_at (u : FVec Ideal S512x1024 .bf16) (v : Vec Ideal S1024x1536 .bf16) (r : Fin 512) (k : Fin 1536) :
    k0_pay17 u v (ix2 r k) = ∑ j : Fin 1024, u (ix2 r j) * v (ix2 j k) := by
  pointwise [k0_pay17]
theorem pay20_at (u : FVec Ideal S512x1024 .bf16) (v : Vec Ideal S1024x1536 .bf16) (r : Fin 512) (k : Fin 1536) :
    k0_pay20 u v (ix2 r k) = ∑ j : Fin 1024, u (ix2 r j) * v (ix2 j k) := by
  pointwise [k0_pay20]

/-- The rows kept for the next tile are the last eight. -/
theorem pay8_at (v0 : Vec Ideal S1x512x1024 .f32) (v2 : Vec Ideal S1x1024 .f32) (v : Vec Ideal S1024x1280 .bf16) (r : Fin 8) (k : Fin 1280) :
    k0_pay8 v0 v2 v (ix2 r k) = k0_pay6 v0 v2 v (ix2 (last8 r) k) := by
  pointwise [k0_pay8, last8]
theorem pay13_at (u : FVec Ideal S512x1024 .bf16) (v : Vec Ideal S1024x1280 .bf16) (r : Fin 8) (k : Fin 1280) :
    k0_pay13 u v (ix2 r k) = k0_pay12 u v (ix2 (last8 r) k) := by
  pointwise [k0_pay13, last8]
theorem pay18_at (u : FVec Ideal S512x1024 .bf16) (v : Vec Ideal S1024x1536 .bf16) (r : Fin 8) (k : Fin 1536) :
    k0_pay18 u v (ix2 r k) = k0_pay17 u v (ix2 (last8 r) k) := by
  pointwise [k0_pay18, last8]
theorem pay21_at (u : FVec Ideal S512x1024 .bf16) (v : Vec Ideal S1024x1536 .bf16) (r : Fin 8) (k : Fin 1536) :
    k0_pay21 u v (ix2 r k) = k0_pay20 u v (ix2 (last8 r) k) := by
  pointwise [k0_pay21, last8]

/-- The convolved gate columns of the first slab. -/
theorem pay11_at (v0 : Vec Ideal S1x512x1024 .f32) (v2 : Vec Ideal S1x1024 .f32) (v : Vec Ideal S1024x1280 .bf16) (tl : Vec Ideal S8x1280 .f32)
    (w : Vec Ideal S3x1280 .f32) (b : Vec Ideal S1x1280 .f32) (r : Fin 512) (k : Fin 1280) :
    k0_pay11 (k0_pay6 v0 v2 v) (k0_pay7 v0 v2 v tl) w (k0_pay9 b) (k0_pay10 w) (ix2 r k)
      = tap (fun j => tl (ix2 j k)) (fun r => k0_pay6 v0 v2 v (ix2 r k)) (fun n => w (ix2 n k)) (b (ix2 0 k)) r := by
  pointwise [k0_pay11, k0_pay7, k0_pay9, k0_pay10, tap, lag2, lag1]

/-- The convolved value columns of the first slab. -/
theorem pay14_at (u : FVec Ideal S512x1024 .bf16) (v : Vec Ideal S1024x1280 .bf16) (tl : Vec Ideal S8x1280 .f32)
    (w : Vec Ideal S3x1280 .f32) (b : Vec Ideal S1x1280 .f32) (r : Fin 512) (k : Fin 1280) :
    k0_pay14 u v tl w b (ix2 r k) + k0_pay15 u v w (ix2 r k)
      = tap (fun j => tl (ix2 j k)) (fun r => k0_pay12 u v (ix2 r k)) (fun n => w (ix2 n k)) (b (ix2 0 k)) r := by
  pointwise [k0_pay14, k0_pay15, tap, lag2, lag1]

/-- The gated unit of the second slab's convolved columns. -/
theorem pay22_at (u : FVec Ideal S512x1024 .bf16) (v : Vec Ideal S1024x1536 .bf16) (tl : Vec Ideal S8x1536 .f32) (w : Vec Ideal S3x1536 .f32) (b : Vec Ideal S1x1536 .f32)
    (v' : Vec Ideal S1024x1536 .bf16) (tl' : Vec Ideal S8x1536 .f32) (w' : Vec Ideal S3x1536 .f32) (b' : Vec Ideal S1x1536 .f32) (r : Fin 512) (k : Fin 1536) :
    k0_pay22 u (k0_pay17 u v) w (k0_pay19 u v tl w b) v' tl' w' b' (ix2 r k)
      = glu (tap (fun j => tl (ix2 j k)) (fun r => k0_pay17 u v (ix2 r k)) (fun n => w (ix2 n k)) (b (ix2 0 k)) r)
          (tap (fun j => tl' (ix2 j k)) (fun r => k0_pay20 u v' (ix2 r k)) (fun n => w' (ix2 n k)) (b' (ix2 0 k)) r) := by
  pointwise [k0_pay22, k0_pay19, tap, lag2, lag1, glu, logi]
  simp only [zero_sub]

/-- The first slab's part of the down projection. -/
theorem pay16_at (g p q : FVec Ideal S512x1280 .f32) (w : Vec Ideal S1280x1024 .bf16) (r : Fin 512) (d : Fin 1024) :
    k0_pay16 (k0_pay5 (F := Ideal)) g p q w (ix2 r d) = ∑ j : Fin 1280, glu (g (ix2 r j)) (p (ix2 r j) + q (ix2 r j)) * w (ix2 j d) := by
  pointwise [k0_pay16, k0_pay5, glu, logi]
  simp only [zero_sub, zero_add]

/-- The row stored. -/
theorem pay1_at (x0 : Vec Ideal S1x512x1024 .f32) (s : FVec Ideal S512x1024 .f32) (g : FVec Ideal S512x1536 .bf16) (w : Vec Ideal S1536x1024 .bf16) (gp : Vec Ideal S1x1024 .f32)
    (a : Fin 1) (r : Fin 512) (d : Fin 1024) :
    k0_pay1 (k0_pay2 x0) s g w gp (ix3 a r d)
      = x0 (ix3 0 r d) + rms (fun d => s (ix2 r d) + ∑ j : Fin 1536, g (ix2 r j) * w (ix2 j d)) (fun k => gp (ix2 0 k)) d := by
  pointwise [k0_pay1, k0_pay2, rms]

end Cert.FfnIdeal.Rows

end
-- ==== Proof.FfnPoint.lean ====
/- The feed-forward kernel at a grid point: the row it stores and the eight rows it keeps, as formulas of its blocks and of the kept rows it finds. -/
module

public import proofs.«01_k».proof.Proof.FfnRows
public import Idealize.ShloMosaic.Lib.Pipeline.ReadBack

@[expose] public section

set_option maxRecDepth 16384

noncomputable section

namespace Cert.FfnIdeal.Rows

open Idealize.ShloMosaic Idealize.ShloMosaic.TcCoe Idealize.SL.Sem
open Idealize.ShloMosaic.Pipeline (Dat)
open Cert.FfnIdeal Cert.FfnIdeal.Gen Cert.RowSpec

/-- A slab of an array read at an index. -/
theorem ld2 {A B a b : ℕ} {e : EltTy} (X : Vec Ideal ⟨2, ![A, B]⟩ e) (o p : ℕ) (inb : ∀ i, ![o, p] i + ![a, b] i ≤ (⟨2, ![A, B]⟩ : Shape).size i)
    (r : Fin a) (k : Fin b) (h1 : o + r.val < A) (h2 : p + k.val < B) :
    View.ld X (Rect.unit ![o, p] ![a, b] inb) (ix2 r k) = X (ix2 ⟨o + r.val, h1⟩ ⟨p + k.val, h2⟩) :=
  View.ld_unit_apply_of X _ _ _ _ _ fun i => by fin_cases i <;> simp [ix2]

variable (x0 : Vec Ideal S1x512x1024 .f32) (x1 x2 : Vec Ideal S1x1024 .f32) (x3 : Vec Ideal S1024x5632 .bf16) (x4 : Vec Ideal S3x5632 .f32)
  (x5 : Vec Ideal S1x5632 .f32) (x6 : Vec Ideal S2816x1024 .bf16)

/-- Hidden column `c` of a block's row before the convolution. -/
def hid (c : Fin 5632) (r : Fin 512) : EReal := ∑ k : Fin 1024, rms (fun k => x0 (ix3 0 r k)) (fun k => x1 (ix2 0 k)) k * x3 (ix2 k c)

/-- The row a point stores, over the kept rows `T` it finds. -/
def stored (T : Vec Ideal S8x5632 .f32) (r : Fin 512) (d : Fin 1024) : EReal :=
  ffnRow (fun k => x0 (ix3 0 r k)) (fun k => x2 (ix2 0 k)) (fun j d => x6 (ix2 j d))
    (fun c => tap (fun j => T (ix2 j c)) (hid x0 x1 x3 c) (fun n => x4 (ix2 n c)) (x5 (ix2 0 c)) r) d

theorem slab3_0 (k : Fin 1024) (c : Fin 1280) :
    View.ld x3 (Rect.unit ![0, 0] ![1024, 1280] inb_S1024x5632_S1024x1280_0_0) (ix2 k c) = x3 (ix2 k ⟨c.val, by have := c.isLt; omega⟩) :=
  (ld2 x3 0 0 _ k c (by have := k.isLt; omega) (by have := c.isLt; omega)).trans (by simp only [zero_add])
theorem slab3_2816 (k : Fin 1024) (c : Fin 1280) :
    View.ld x3 (Rect.unit ![0, 2816] ![1024, 1280] inb_S1024x5632_S1024x1280_0_2816) (ix2 k c) = x3 (ix2 k ⟨2816 + c.val, by have := c.isLt; omega⟩) :=
  (ld2 x3 0 2816 _ k c (by have := k.isLt; omega) (by have := c.isLt; omega)).trans (by simp only [zero_add])
theorem slab3_1280 (k : Fin 1024) (c : Fin 1536) :
    View.ld x3 (Rect.unit ![0, 1280] ![1024, 1536] inb_S1024x5632_S1024x1536_0_1280) (ix2 k c) = x3 (ix2 k ⟨1280 + c.val, by have := c.isLt; omega⟩) :=
  (ld2 x3 0 1280 _ k c (by have := k.isLt; omega) (by have := c.isLt; omega)).trans (by simp only [zero_add])
theorem slab3_4096 (k : Fin 1024) (c : Fin 1536) :
    View.ld x3 (Rect.unit ![0, 4096] ![1024, 1536] inb_S1024x5632_S1024x1536_0_4096) (ix2 k c) = x3 (ix2 k ⟨4096 + c.val, by have := c.isLt; omega⟩) :=
  (ld2 x3 0 4096 _ k c (by have := k.isLt; omega) (by have := c.isLt; omega)).trans (by simp only [zero_add])
theorem slab4_0 (k : Fin 3) (c : Fin 1280) :
    View.ld x4 (Rect.unit ![0, 0] ![3, 1280] inb_S3x5632_S3x1280_0_0) (ix2 k c) = x4 (ix2 k ⟨c.val, by have := c.isLt; omega⟩) :=
  (ld2 x4 0 0 _ k c (by have := k.isLt; omega) (by have := c.isLt; omega)).trans (by simp only [zero_add])
theorem slab4_2816 (k : Fin 3) (c : Fin 1280) :
    View.ld x4 (Rect.unit ![0, 2816] ![3, 1280] inb_S3x5632_S3x1280_0_2816) (ix2 k c) = x4 (ix2 k ⟨2816 + c.val, by have := c.isLt; omega⟩) :=
  (ld2 x4 0 2816 _ k c (by have := k.isLt; omega) (by have := c.isLt; omega)).trans (by simp only [zero_add])
theorem slab4_1280 (k : Fin 3) (c : Fin 1536) :
    View.ld x4 (Rect.unit ![0, 1280] ![3, 1536] inb_S3x5632_S3x1536_0_1280) (ix2 k c) = x4 (ix2 k ⟨1280 + c.val, by have := c.isLt; omega⟩) :=
  (ld2 x4 0 1280 _ k c (by have := k.isLt; omega) (by have := c.isLt; omega)).trans (by simp only [zero_add])
theorem slab4_4096 (k : Fin 3) (c : Fin 1536) :
    View.ld x4 (Rect.unit ![0, 4096] ![3, 1536] inb_S3x5632_S3x1536_0_4096) (ix2 k c) = x4 (ix2 k ⟨4096 + c.val, by have := c.isLt; omega⟩) :=
  (ld2 x4 0 4096 _ k c (by have := k.isLt; omega) (by have := c.isLt; omega)).trans (by simp only [zero_add])
theorem slab5_0 (k : Fin 1) (c : Fin 1280) :
    View.ld x5 (Rect.unit ![0, 0] ![1, 1280] inb_S1x5632_S1x1280_0_0) (ix2 k c) = x5 (ix2 k ⟨c.val, by have := c.isLt; omega⟩) :=
  (ld2 x5 0 0 _ k c (by have := k.isLt; omega) (by have := c.isLt; omega)).trans (by simp only [zero_add])
theorem slab5_2816 (k : Fin 1) (c : Fin 1280) :
    View.ld x5 (Rect.unit ![0, 2816] ![1, 1280] inb_S1x5632_S1x1280_0_2816) (ix2 k c) = x5 (ix2 k ⟨2816 + c.val, by have := c.isLt; omega⟩) :=
  (ld2 x5 0 2816 _ k c (by have := k.isLt; omega) (by have := c.isLt; omega)).trans (by simp only [zero_add])
theorem slab5_1280 (k : Fin 1) (c : Fin 1536) :
    View.ld x5 (Rect.unit ![0, 1280] ![1, 1536] inb_S1x5632_S1x1536_0_1280) (ix2 k c) = x5 (ix2 k ⟨1280 + c.val, by have := c.isLt; omega⟩) :=
  (ld2 x5 0 1280 _ k c (by have := k.isLt; omega) (by have := c.isLt; omega)).trans (by simp only [zero_add])
theorem slab5_4096 (k : Fin 1) (c : Fin 1536) :
    View.ld x5 (Rect.unit ![0, 4096] ![1, 1536] inb_S1x5632_S1x1536_0_4096) (ix2 k c) = x5 (ix2 k ⟨4096 + c.val, by have := c.isLt; omega⟩) :=
  (ld2 x5 0 4096 _ k c (by have := k.isLt; omega) (by have := c.isLt; omega)).trans (by simp only [zero_add])
theorem slab6_0 (k : Fin 1280) (c : Fin 1024) :
    View.ld x6 (Rect.unit ![0, 0] ![1280, 1024] inb_S2816x1024_S1280x1024_0_0) (ix2 k c) = x6 (ix2 ⟨k.val, by have := k.isLt; omega⟩ c) :=
  (ld2 x6 0 0 _ k c (by have := k.isLt; omega) (by have := c.isLt; omega)).trans (by simp only [zero_add])
theorem slab6_1280 (k : Fin 1536) (c : Fin 1024) :
    View.ld x6 (Rect.unit ![1280, 0] ![1536, 1024] inb_S2816x1024_S1536x1024_1280_0) (ix2 k c) = x6 (ix2 ⟨1280 + k.val, by have := k.isLt; omega⟩ c) :=
  (ld2 x6 1280 0 _ k c (by have := k.isLt; omega) (by have := c.isLt; omega)).trans (by simp only [zero_add])
theorem val_1280 (j : Fin 1536) : val ⟨1280 + j.val, by have := j.isLt; omega⟩ = ⟨4096 + j.val, by have := j.isLt; omega⟩ :=
  Fin.ext (by simp only [val]; omega)

/-- The body's row over slabs of the weights and of the kept rows. -/
theorem slabs_at (T : Vec Ideal S8x5632 .f32) (T0 T1 : Vec Ideal S8x1280 .f32) (T2 T3 : Vec Ideal S8x1536 .f32)
    (h0 : ∀ (j : Fin 8) (k : Fin 1280), T0 (ix2 j k) = T (ix2 j ⟨k.val, by have := k.isLt; omega⟩))
    (h1 : ∀ (j : Fin 8) (k : Fin 1280), T1 (ix2 j k) = T (ix2 j ⟨2816 + k.val, by have := k.isLt; omega⟩))
    (h2 : ∀ (j : Fin 8) (k : Fin 1536), T2 (ix2 j k) = T (ix2 j ⟨1280 + k.val, by have := k.isLt; omega⟩))
    (h3 : ∀ (j : Fin 8) (k : Fin 1536), T3 (ix2 j k) = T (ix2 j ⟨4096 + k.val, by have := k.isLt; omega⟩))
    (w3_0 : Vec Ideal S1024x1280 .bf16) (w4_0 : Vec Ideal S3x1280 .f32) (w5_0 : Vec Ideal S1x1280 .f32) (w3_2816 : Vec Ideal S1024x1280 .bf16) (w4_2816 : Vec Ideal S3x1280 .f32) (w5_2816 : Vec Ideal S1x1280 .f32) (w6_0 : Vec Ideal S1280x1024 .bf16) (w3_1280 : Vec Ideal S1024x1536 .bf16) (w4_1280 : Vec Ideal S3x1536 .f32) (w5_1280 : Vec Ideal S1x1536 .f32) (w3_4096 : Vec Ideal S1024x1536 .bf16) (w4_4096 : Vec Ideal S3x1536 .f32) (w5_4096 : Vec Ideal S1x1536 .f32) (w6_1280 : Vec Ideal S1536x1024 .bf16)
    (g3_0 : ∀ (k : Fin 1024) (c : Fin 1280), w3_0 (ix2 k c) = x3 (ix2 k ⟨c.val, by have := c.isLt; omega⟩))
    (g4_0 : ∀ (k : Fin 3) (c : Fin 1280), w4_0 (ix2 k c) = x4 (ix2 k ⟨c.val, by have := c.isLt; omega⟩))
    (g5_0 : ∀ (k : Fin 1) (c : Fin 1280), w5_0 (ix2 k c) = x5 (ix2 k ⟨c.val, by have := c.isLt; omega⟩))
    (g3_2816 : ∀ (k : Fin 1024) (c : Fin 1280), w3_2816 (ix2 k c) = x3 (ix2 k ⟨2816 + c.val, by have := c.isLt; omega⟩))
    (g4_2816 : ∀ (k : Fin 3) (c : Fin 1280), w4_2816 (ix2 k c) = x4 (ix2 k ⟨2816 + c.val, by have := c.isLt; omega⟩))
    (g5_2816 : ∀ (k : Fin 1) (c : Fin 1280), w5_2816 (ix2 k c) = x5 (ix2 k ⟨2816 + c.val, by have := c.isLt; omega⟩))
    (g6_0 : ∀ (k : Fin 1280) (c : Fin 1024), w6_0 (ix2 k c) = x6 (ix2 ⟨k.val, by have := k.isLt; omega⟩ c))
    (g3_1280 : ∀ (k : Fin 1024) (c : Fin 1536), w3_1280 (ix2 k c) = x3 (ix2 k ⟨1280 + c.val, by have := c.isLt; omega⟩))
    (g4_1280 : ∀ (k : Fin 3) (c : Fin 1536), w4_1280 (ix2 k c) = x4 (ix2 k ⟨1280 + c.val, by have := c.isLt; omega⟩))
    (g5_1280 : ∀ (k : Fin 1) (c : Fin 1536), w5_1280 (ix2 k c) = x5 (ix2 k ⟨1280 + c.val, by have := c.isLt; omega⟩))
    (g3_4096 : ∀ (k : Fin 1024) (c : Fin 1536), w3_4096 (ix2 k c) = x3 (ix2 k ⟨4096 + c.val, by have := c.isLt; omega⟩))
    (g4_4096 : ∀ (k : Fin 3) (c : Fin 1536), w4_4096 (ix2 k c) = x4 (ix2 k ⟨4096 + c.val, by have := c.isLt; omega⟩))
    (g5_4096 : ∀ (k : Fin 1) (c : Fin 1536), w5_4096 (ix2 k c) = x5 (ix2 k ⟨4096 + c.val, by have := c.isLt; omega⟩))
    (g6_1280 : ∀ (k : Fin 1536) (c : Fin 1024), w6_1280 (ix2 k c) = x6 (ix2 ⟨1280 + k.val, by have := k.isLt; omega⟩ c))
    (a : Fin 1) (r : Fin 512) (d : Fin 1024) :
    k0_pay1 (k0_pay2 x0)
      (k0_pay16 (k0_pay5 (F := Ideal))
        (k0_pay11
          (k0_pay6 x0 x1 w3_0)
          (k0_pay7 x0 x1 w3_0 T0)
          w4_0
          (k0_pay9 w5_0)
          (k0_pay10 w4_0))
        (k0_pay14 (k0_pay3 x0 x1) w3_2816 T1
          w4_2816
          w5_2816)
        (k0_pay15 (k0_pay3 x0 x1) w3_2816
          w4_2816)
        w6_0)
      (k0_pay22 (k0_pay3 x0 x1)
        (k0_pay17 (k0_pay3 x0 x1) w3_1280)
        w4_1280
        (k0_pay19 (k0_pay3 x0 x1) w3_1280 T2
          w4_1280
          w5_1280)
        w3_4096 T3
        w4_4096
        w5_4096)
      w6_1280 x2 (ix3 a r d)
      = stored x0 x1 x2 x3 x4 x5 x6 T r d := by
  rw [pay1_at]
  unfold stored ffnRow
  refine congrArg (fun z => x0 (ix3 0 r d) + z) (congrArg (fun f => rms f (fun k => x2 (ix2 0 k)) d) (funext fun d => ?_))
  rw [sum_cut, pay16_at]
  refine congrArg₂ (· + ·) (Finset.sum_congr rfl fun j _ => ?_) (Finset.sum_congr rfl fun j _ => ?_)
  · rw [pay11_at, pay14_at]
    simp only [pay6_at, pay12_at, pay3_at, h0, h1, g3_0, g4_0, g5_0, g3_2816, g4_2816, g5_2816, g6_0, g3_1280, g4_1280, g5_1280, g3_4096, g4_4096, g5_4096, g6_1280]
    rfl
  · rw [pay22_at]
    simp only [pay17_at, pay20_at, pay3_at, h2, h3, g3_0, g4_0, g5_0, g3_2816, g4_2816, g5_2816, g6_0, g3_1280, g4_1280, g5_1280, g3_4096, g4_4096, g5_4096, g6_1280, val_1280]
    rfl

/-- The body's row is that formula. -/
theorem stored_at (T : Vec Ideal S8x5632 .f32) (T0 T1 : Vec Ideal S8x1280 .f32) (T2 T3 : Vec Ideal S8x1536 .f32)
    (h0 : ∀ (j : Fin 8) (k : Fin 1280), T0 (ix2 j k) = T (ix2 j ⟨k.val, by have := k.isLt; omega⟩))
    (h1 : ∀ (j : Fin 8) (k : Fin 1280), T1 (ix2 j k) = T (ix2 j ⟨2816 + k.val, by have := k.isLt; omega⟩))
    (h2 : ∀ (j : Fin 8) (k : Fin 1536), T2 (ix2 j k) = T (ix2 j ⟨1280 + k.val, by have := k.isLt; omega⟩))
    (h3 : ∀ (j : Fin 8) (k : Fin 1536), T3 (ix2 j k) = T (ix2 j ⟨4096 + k.val, by have := k.isLt; omega⟩))
    (a : Fin 1) (r : Fin 512) (d : Fin 1024) :
    k0_pay1 (k0_pay2 x0)
      (k0_pay16 (k0_pay5 (F := Ideal))
        (k0_pay11
          (k0_pay6 x0 x1 (View.ld x3 (Rect.unit ![0, 0] ![1024, 1280] inb_S1024x5632_S1024x1280_0_0)))
          (k0_pay7 x0 x1 (View.ld x3 (Rect.unit ![0, 0] ![1024, 1280] inb_S1024x5632_S1024x1280_0_0)) T0)
          (View.ld x4 (Rect.unit ![0, 0] ![3, 1280] inb_S3x5632_S3x1280_0_0))
          (k0_pay9 (View.ld x5 (Rect.unit ![0, 0] ![1, 1280] inb_S1x5632_S1x1280_0_0)))
          (k0_pay10 (View.ld x4 (Rect.unit ![0, 0] ![3, 1280] inb_S3x5632_S3x1280_0_0))))
        (k0_pay14 (k0_pay3 x0 x1) (View.ld x3 (Rect.unit ![0, 2816] ![1024, 1280] inb_S1024x5632_S1024x1280_0_2816)) T1
          (View.ld x4 (Rect.unit ![0, 2816] ![3, 1280] inb_S3x5632_S3x1280_0_2816))
          (View.ld x5 (Rect.unit ![0, 2816] ![1, 1280] inb_S1x5632_S1x1280_0_2816)))
        (k0_pay15 (k0_pay3 x0 x1) (View.ld x3 (Rect.unit ![0, 2816] ![1024, 1280] inb_S1024x5632_S1024x1280_0_2816))
          (View.ld x4 (Rect.unit ![0, 2816] ![3, 1280] inb_S3x5632_S3x1280_0_2816)))
        (View.ld x6 (Rect.unit ![0, 0] ![1280, 1024] inb_S2816x1024_S1280x1024_0_0)))
      (k0_pay22 (k0_pay3 x0 x1)
        (k0_pay17 (k0_pay3 x0 x1) (View.ld x3 (Rect.unit ![0, 1280] ![1024, 1536] inb_S1024x5632_S1024x1536_0_1280)))
        (View.ld x4 (Rect.unit ![0, 1280] ![3, 1536] inb_S3x5632_S3x1536_0_1280))
        (k0_pay19 (k0_pay3 x0 x1) (View.ld x3 (Rect.unit ![0, 1280] ![1024, 1536] inb_S1024x5632_S1024x1536_0_1280)) T2
          (View.ld x4 (Rect.unit ![0, 1280] ![3, 1536] inb_S3x5632_S3x1536_0_1280))
          (View.ld x5 (Rect.unit ![0, 1280] ![1, 1536] inb_S1x5632_S1x1536_0_1280)))
        (View.ld x3 (Rect.unit ![0, 4096] ![1024, 1536] inb_S1024x5632_S1024x1536_0_4096)) T3
        (View.ld x4 (Rect.unit ![0, 4096] ![3, 1536] inb_S3x5632_S3x1536_0_4096))
        (View.ld x5 (Rect.unit ![0, 4096] ![1, 1536] inb_S1x5632_S1x1536_0_4096)))
      (View.ld x6 (Rect.unit ![1280, 0] ![1536, 1024] inb_S2816x1024_S1536x1024_1280_0)) x2 (ix3 a r d)
      = stored x0 x1 x2 x3 x4 x5 x6 T r d := by
  exact slabs_at x0 x1 x2 x3 x4 x5 x6 T T0 T1 T2 T3 h0 h1 h2 h3 _ _ _ _ _ _ _ _ _ _ _ _ _ _ (slab3_0 x3) (slab4_0 x4) (slab5_0 x5) (slab3_2816 x3) (slab4_2816 x4) (slab5_2816 x5) (slab6_0 x6) (slab3_1280 x3) (slab4_1280 x4) (slab5_1280 x5) (slab3_4096 x3) (slab4_4096 x4) (slab5_4096 x5) (slab6_1280 x6) a r d

/-- The rows kept after a point are the last eight of each hidden column, whatever was stored before them. -/
theorem kept_at (L : List (View.Piece (Elt Ideal) S8x5632 .f32)) (j : Fin 8) (c : Fin 5632) :
    View.canon (⟨Rect.unit ![0, 4096] ![8, 1536] inb_S8x5632_S8x1536_0_4096, k0_pay21 (k0_pay3 x0 x1) (View.ld x3 (Rect.unit ![0, 4096] ![1024, 1536] inb_S1024x5632_S1024x1536_0_4096))⟩
      :: ⟨Rect.unit ![0, 1280] ![8, 1536] inb_S8x5632_S8x1536_0_1280, k0_pay18 (k0_pay3 x0 x1) (View.ld x3 (Rect.unit ![0, 1280] ![1024, 1536] inb_S1024x5632_S1024x1536_0_1280))⟩
      :: ⟨Rect.unit ![0, 2816] ![8, 1280] inb_S8x5632_S8x1280_0_2816, k0_pay13 (k0_pay3 x0 x1) (View.ld x3 (Rect.unit ![0, 2816] ![1024, 1280] inb_S1024x5632_S1024x1280_0_2816))⟩
      :: ⟨Rect.unit ![0, 0] ![8, 1280] inb_S8x5632_S8x1280_0_0, k0_pay8 x0 x1 (View.ld x3 (Rect.unit ![0, 0] ![1024, 1280] inb_S1024x5632_S1024x1280_0_0))⟩ :: L) (ix2 j c)
      = hid x0 x1 x3 c (last8 j) := by
  let G : S8x5632.Idx → Elt Ideal .f32 := fun y => hid x0 x1 x3 (y 1) (last8 (y 0))
  refine View.canon_append_of_piecesOf G L [_, _, _, _] ⟨?_, ?_, ?_, ?_, trivial⟩ (ix2 j c) ?_
  · intro x
    obtain ⟨r, k, rfl⟩ : ∃ (r : Fin 8) (k : Fin 1536), x = ix2 r k := ⟨x 0, x 1, by funext i; fin_cases i <;> rfl⟩
    have e : G ((Rect.unit (s := S8x5632) ![0, 4096] ![8, 1536] inb_S8x5632_S8x1536_0_4096).emb (ix2 r k)) = hid x0 x1 x3 ⟨4096 + k.val, by have := k.isLt; omega⟩ (last8 r) :=
      congrArg₂ (hid x0 x1 x3) (Fin.ext (by rw [Rect.emb_apply]; show 4096 + 1 * k.val = 4096 + k.val; omega))
        (congrArg last8 (Fin.ext (by rw [Rect.emb_apply]; show 0 + 1 * r.val = r.val; omega)))
    refine Eq.trans ?_ e.symm
    refine (pay21_at _ _ r k).trans ((pay20_at _ _ (last8 r) k).trans (Finset.sum_congr rfl fun l _ => ?_))
    exact congrArg₂ (· * ·) (pay3_at x0 x1 (last8 r) l) (slab3_4096 x3 l k)
  · intro x
    obtain ⟨r, k, rfl⟩ : ∃ (r : Fin 8) (k : Fin 1536), x = ix2 r k := ⟨x 0, x 1, by funext i; fin_cases i <;> rfl⟩
    have e : G ((Rect.unit (s := S8x5632) ![0, 1280] ![8, 1536] inb_S8x5632_S8x1536_0_1280).emb (ix2 r k)) = hid x0 x1 x3 ⟨1280 + k.val, by have := k.isLt; omega⟩ (last8 r) :=
      congrArg₂ (hid x0 x1 x3) (Fin.ext (by rw [Rect.emb_apply]; show 1280 + 1 * k.val = 1280 + k.val; omega))
        (congrArg last8 (Fin.ext (by rw [Rect.emb_apply]; show 0 + 1 * r.val = r.val; omega)))
    refine Eq.trans ?_ e.symm
    refine (pay18_at _ _ r k).trans ((pay17_at _ _ (last8 r) k).trans (Finset.sum_congr rfl fun l _ => ?_))
    exact congrArg₂ (· * ·) (pay3_at x0 x1 (last8 r) l) (slab3_1280 x3 l k)
  · intro x
    obtain ⟨r, k, rfl⟩ : ∃ (r : Fin 8) (k : Fin 1280), x = ix2 r k := ⟨x 0, x 1, by funext i; fin_cases i <;> rfl⟩
    have e : G ((Rect.unit (s := S8x5632) ![0, 2816] ![8, 1280] inb_S8x5632_S8x1280_0_2816).emb (ix2 r k)) = hid x0 x1 x3 ⟨2816 + k.val, by have := k.isLt; omega⟩ (last8 r) :=
      congrArg₂ (hid x0 x1 x3) (Fin.ext (by rw [Rect.emb_apply]; show 2816 + 1 * k.val = 2816 + k.val; omega))
        (congrArg last8 (Fin.ext (by rw [Rect.emb_apply]; show 0 + 1 * r.val = r.val; omega)))
    refine Eq.trans ?_ e.symm
    refine (pay13_at _ _ r k).trans ((pay12_at _ _ (last8 r) k).trans (Finset.sum_congr rfl fun l _ => ?_))
    exact congrArg₂ (· * ·) (pay3_at x0 x1 (last8 r) l) (slab3_2816 x3 l k)
  · intro x
    obtain ⟨r, k, rfl⟩ : ∃ (r : Fin 8) (k : Fin 1280), x = ix2 r k := ⟨x 0, x 1, by funext i; fin_cases i <;> rfl⟩
    have e : G ((Rect.unit (s := S8x5632) ![0, 0] ![8, 1280] inb_S8x5632_S8x1280_0_0).emb (ix2 r k)) = hid x0 x1 x3 ⟨0 + k.val, by have := k.isLt; omega⟩ (last8 r) :=
      congrArg₂ (hid x0 x1 x3) (Fin.ext (by rw [Rect.emb_apply]; show 0 + 1 * k.val = 0 + k.val; omega))
        (congrArg last8 (Fin.ext (by rw [Rect.emb_apply]; show 0 + 1 * r.val = r.val; omega)))
    refine Eq.trans ?_ e.symm
    refine (pay8_at _ _ _ r k).trans ((pay6_at _ _ _ (last8 r) k).trans (Finset.sum_congr rfl fun l _ => ?_))
    exact congrArg₂ (· * ·) (pay3_at x0 x1 (last8 r) l) ((slab3_0 x3 l k).trans (congrArg (fun z => x3 (ix2 l z)) (Fin.ext (Nat.zero_add _).symm)))
  · have hc := c.isLt
    have hj := j.isLt
    have cov : ∀ (o n : ℕ) (inb : ∀ i, ![0, o] i + ![8, n] i ≤ S8x5632.size i), o ≤ c.val → c.val < o + n → (ix2 j c : S8x5632.Idx) ∈ (Rect.unit (s := S8x5632) ![0, o] ![8, n] inb).set :=
      fun o n inb h1 h2 => Rect.mem_set_unit.mpr fun a => by
        fin_cases a
        · exact ⟨Nat.zero_le _, by show j.val < 0 + 8; omega⟩
        · exact ⟨h1, h2⟩
    by_cases h1 : c.val < 1280
    · exact ⟨_, .tail _ (.tail _ (.tail _ (.head _))), cov 0 1280 inb_S8x5632_S8x1280_0_0 (by omega) (by omega)⟩
    · by_cases h2 : c.val < 2816
      · exact ⟨_, .tail _ (.head _), cov 1280 1536 inb_S8x5632_S8x1536_0_1280 (by omega) (by omega)⟩
      · by_cases h3 : c.val < 4096
        · exact ⟨_, .tail _ (.tail _ (.head _)), cov 2816 1280 inb_S8x5632_S8x1280_0_2816 (by omega) (by omega)⟩
        · exact ⟨_, .head _, cov 4096 1536 inb_S8x5632_S8x1536_0_4096 (by omega) (by omega)⟩

end Cert.FfnIdeal.Rows

end
-- ==== Proof.FfnReference.lean ====
/- The feed-forward reference, read one row at a time: the row formula over the causal convolution. -/
module

public import proofs.«01_k».proof.Proof.RowSpec
public import proofs.«01_k».proof.Proof.Gen.FfnReferenceIdeal.Read
public import Idealize.ShloMosaic.Lib.Pipeline.ValueKit
public import Idealize.ShloMosaic.Lib.Pointwise

@[expose] public section

set_option maxRecDepth 16384

noncomputable section

namespace Cert.FfnReferenceIdeal.Rows

open Idealize.ShloMosaic Idealize.ShloMosaic.TcCoe Idealize.SL.Sem
open Cert.FfnReferenceIdeal Cert.FfnReferenceIdeal.Gen Cert.FfnReferenceIdeal.Read Cert.RowSpec

variable (x0 : Vec Ideal S16x4096x1024 .f32) (x1 x2 : Vec Ideal S1024 .f32) (x3 : Vec Ideal S1024x5632 .f32) (x4 : Vec Ideal S3x5632 .f32)
  (x5 : Vec Ideal S5632 .f32) (x6 : Vec Ideal S2816x1024 .f32)

/-- The hidden columns before the convolution. -/
theorem v13_at (b : Fin 16) (r : Fin 4096) (c : Fin 5632) :
    val_main_v13 (F := Ideal) x0 x1 x3 (ix3 b r c) = ∑ k, rms (fun k => x0 (ix3 b r k)) (fun k => x1 (ix1 k)) k * x3 (ix2 k c) := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1, rms]

/-- The two padded rows are zero. -/
theorem v14_at (b : Fin 16) (r : Fin 4098) (c : Fin 5632) :
    val_main_v14 (F := Ideal) x0 x1 x3 (ix3 b r c) = if h : r.val < 2 then 0 else val_main_v13 (F := Ideal) x0 x1 x3 (ix3 b ⟨r.val - 2, by have := r.isLt; omega⟩ c) := by
  pointwise [val_main_v14, val_main_call0_v0, val_main_c]
  have := r.isLt
  by_cases h : r.val < 2
  · rw [dif_neg (by omega), dif_pos h]
    show (((BitVec.toInt 0#32 : ℤ) : ℝ) : EReal) = 0
    simp
  · rw [dif_pos (by omega), dif_neg h]

/-- The convolved hidden columns. -/
theorem v37_at (b : Fin 16) (r : Fin 4096) (c : Fin 5632) :
    val_main_v37 (F := Ideal) x0 x1 x3 x4 x5 (ix3 b r c)
      = causal (fun r => val_main_v13 (F := Ideal) x0 x1 x3 (ix3 b r c)) (fun n => x4 (ix2 n c)) (x5 (ix1 c)) r := by
  have e0 : val_main_v14 (F := Ideal) x0 x1 x3 (ix3 b ⟨r.val, by have := r.isLt; omega⟩ c) = above (fun r => val_main_v13 (F := Ideal) x0 x1 x3 (ix3 b r c)) 2 r := by
    rw [v14_at]; rfl
  have e1 : val_main_v14 (F := Ideal) x0 x1 x3 (ix3 b ⟨1 + r.val, by have := r.isLt; omega⟩ c) = above (fun r => val_main_v13 (F := Ideal) x0 x1 x3 (ix3 b r c)) 1 r := by
    rw [v14_at]
    unfold above
    by_cases h : r.val < 1
    · rw [dif_pos (by show 1 + r.val < 2; omega), dif_pos h]
    · rw [dif_neg (by show ¬1 + r.val < 2; omega), dif_neg h]
      exact congrArg (fun r => val_main_v13 (F := Ideal) x0 x1 x3 (ix3 b r c)) (Fin.ext (by show 1 + r.val - 2 = r.val - 1; omega))
  have e2 : val_main_v14 (F := Ideal) x0 x1 x3 (ix3 b ⟨2 + r.val, by have := r.isLt; omega⟩ c) = val_main_v13 (F := Ideal) x0 x1 x3 (ix3 b r c) := by
    rw [v14_at, dif_neg (by show ¬2 + r.val < 2; omega)]
    exact congrArg (fun r => val_main_v13 (F := Ideal) x0 x1 x3 (ix3 b r c)) (Fin.ext (by show 2 + r.val - 2 = r.val; omega))
  unfold causal
  rw [← e0, ← e1]
  beta_reduce
  rw [← e2]
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37]

/-- The result. -/
theorem v56_at (b : Fin 16) (r : Fin 4096) (d : Fin 1024) :
    val_main_v56 (F := Ideal) x0 x1 x2 x3 x4 x5 x6 (ix3 b r d)
      = ffnRow (fun k => x0 (ix3 b r k)) (fun k => x2 (ix1 k)) (fun j d => x6 (ix2 j d)) (fun c => val_main_v37 (F := Ideal) x0 x1 x3 x4 x5 (ix3 b r c)) d := by
  pointwise [val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_call1_v0, val_main_call1_v1, val_main_call1_v2, val_main_call1_v3, val_main_call1_v4, val_main_call1_v5, val_main_call1_cst, val_main_call1_cst_0, val_main_cst_2, val_main_cst_3, val_main_cst_4, ffnRow, rms, glu, logi, val, gate]

end Cert.FfnReferenceIdeal.Rows

end
-- ==== Proof.Ffn.lean ====
/- The feed-forward call: the array the kernel leaves is its reference's. -/
module

public import proofs.«01_k».proof.Proof.FfnPoint
public import proofs.«01_k».proof.Proof.FfnReference

@[expose] public section

set_option maxRecDepth 16384

noncomputable section

namespace Cert.FfnIdeal.Rows

open Idealize.ShloMosaic Idealize.ShloMosaic.TcCoe Idealize.SL.Sem
open Idealize.ShloMosaic.Pipeline (Dat)
open Cert.FfnIdeal Cert.FfnIdeal.Gen Cert.RowSpec

variable (m : (ℓ : Loc nD τ sig) → Buf (Elt Ideal) ℓ)

/-- The block every window reads or writes at a grid point. -/
theorem idx : ∀ t : Fin cfg0.N, win0_0.index t = ![t.val / 8, t.val % 8, 0]
    ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![t.val / 8, t.val % 8, 0] :=
  (by decide +kernel : ∀ t : Fin grid0.N, _)

/-- The batch a grid point works on. -/
def bat (t : Fin cfg0.N) : Fin 16 := ⟨t.val / 8, Nat.div_lt_of_lt_mul t.isLt⟩

/-- The row of the array that is row `r` of the point's block. -/
def row (t : Fin cfg0.N) (r : Fin 512) : Fin 4096 := ⟨512 * (t.val % 8) + r.val, by have := r.isLt; omega⟩

variable (c : Dev nD) (t : Fin cfg0.N)

theorem blk0 (r : Fin 512) (k : Fin 1024) : iblk m c 0 t (ix3 0 r k) = (m ((c : Thread nD τ).loc main_arg0)) (ix3 (bat t) (row t r) k) := by
  blk_point [iblk, V, idx t, bat, row]
theorem blk1 (k : Fin 1024) : iblk m c 1 t (ix2 0 k) = (m ((c : Thread nD τ).loc main_arg1)) (ix1 k) := by
  blk_point [iblk, V, idx t]
theorem blk2 (k : Fin 1024) : iblk m c 2 t (ix2 0 k) = (m ((c : Thread nD τ).loc main_arg2)) (ix1 k) := by
  blk_point [iblk, V, idx t]
theorem blk3 (k : Fin 1024) (e : Fin 5632) : iblk m c 3 t (ix2 k e) = (m ((c : Thread nD τ).loc main_arg3)) (ix2 k e) := by
  blk_point [iblk, V, idx t]
theorem blk4 (k : Fin 3) (e : Fin 5632) : iblk m c 4 t (ix2 k e) = (m ((c : Thread nD τ).loc main_arg4)) (ix2 k e) := by
  blk_point [iblk, V, idx t]
theorem blk5 (e : Fin 5632) : iblk m c 5 t (ix2 0 e) = (m ((c : Thread nD τ).loc main_arg5)) (ix1 e) := by
  blk_point [iblk, V, idx t]
theorem blk6 (k : Fin 2816) (e : Fin 1024) : iblk m c 6 t (ix2 k e) = (m ((c : Thread nD τ).loc main_arg6)) (ix2 k e) := by
  blk_point [iblk, V, idx t]

/-- The rows a point keeps. -/
theorem kept (j : Fin 8) (e : Fin 5632) : (outsAt0 m c t.val t.isLt).2 (ix2 j e) = hid (iblk m c 0 t) (iblk m c 1 t) (iblk m c 3 t) e (last8 j) := by
  by_cases h0 : t.val % 8 = 0
  · rw [outsAt0_A m c t h0]
    dsimp only
    frame_out
    exact kept_at (iblk m c 0 t) (iblk m c 1 t) (iblk m c 3 t) [_] j e
  · rw [outsAt0_B m c t h0]
    dsimp only
    frame_out
    exact kept_at (iblk m c 0 t) (iblk m c 1 t) (iblk m c 3 t) [] j e

theorem kept_0 (T : Vec Ideal S8x5632 .f32) (j : Fin 8) (k : Fin 1280) :
    View.ld T (Rect.unit ![0, 0] ![8, 1280] inb_S8x5632_S8x1280_0_0) (ix2 j k) = T (ix2 j ⟨k.val, by have := k.isLt; omega⟩) :=
  (ld2 T 0 0 _ j k (by have := j.isLt; omega) (by have := k.isLt; omega)).trans (by simp only [zero_add])
theorem kept_2816 (T : Vec Ideal S8x5632 .f32) (j : Fin 8) (k : Fin 1280) :
    View.ld T (Rect.unit ![0, 2816] ![8, 1280] inb_S8x5632_S8x1280_0_2816) (ix2 j k) = T (ix2 j ⟨2816 + k.val, by have := k.isLt; omega⟩) :=
  (ld2 T 0 2816 _ j k (by have := j.isLt; omega) (by have := k.isLt; omega)).trans (by simp only [zero_add])
theorem kept_1280 (T : Vec Ideal S8x5632 .f32) (j : Fin 8) (k : Fin 1536) :
    View.ld T (Rect.unit ![0, 1280] ![8, 1536] inb_S8x5632_S8x1536_0_1280) (ix2 j k) = T (ix2 j ⟨1280 + k.val, by have := k.isLt; omega⟩) :=
  (ld2 T 0 1280 _ j k (by have := j.isLt; omega) (by have := k.isLt; omega)).trans (by simp only [zero_add])
theorem kept_4096 (T : Vec Ideal S8x5632 .f32) (j : Fin 8) (k : Fin 1536) :
    View.ld T (Rect.unit ![0, 4096] ![8, 1536] inb_S8x5632_S8x1536_0_4096) (ix2 j k) = T (ix2 j ⟨4096 + k.val, by have := k.isLt; omega⟩) :=
  (ld2 T 0 4096 _ j k (by have := j.isLt; omega) (by have := k.isLt; omega)).trans (by simp only [zero_add])

/-- The row the first point of a sequence stores: the kept rows are zeros. -/
theorem first (h0 : t.val % 8 = 0) (a : Fin 1) (r : Fin 512) (d : Fin 1024) :
    (outsAt0 m c t.val t.isLt).1 (ix3 a r d) = stored (iblk m c 0 t) (iblk m c 1 t) (iblk m c 2 t) (iblk m c 3 t) (iblk m c 4 t) (iblk m c 5 t) (iblk m c 6 t) (fun _ => 0) r d := by
  rw [outsAt0_A m c t h0]
  dsimp only
  frame_out
  refine stored_at (iblk m c 0 t) (iblk m c 1 t) (iblk m c 2 t) (iblk m c 3 t) (iblk m c 4 t) (iblk m c 5 t) (iblk m c 6 t) (fun _ => 0) _ _ _ _ ?_ ?_ ?_ ?_ a r d <;> intro j k
  · rw [View.readCov_fill _ _ _ _ _ (by decide)]
    exact (kept_0 (k0_pay4 (F := Ideal)) j k).trans (by pointwise [k0_pay4])
  · rw [View.readCov_skip _ _ _ _ _ (by decide)]; rw [View.readCov_fill _ _ _ _ _ (by decide)]
    exact (kept_2816 (k0_pay4 (F := Ideal)) j k).trans (by pointwise [k0_pay4])
  · rw [View.readCov_skip _ _ _ _ _ (by decide)]; rw [View.readCov_skip _ _ _ _ _ (by decide)]; rw [View.readCov_fill _ _ _ _ _ (by decide)]
    exact (kept_1280 (k0_pay4 (F := Ideal)) j k).trans (by pointwise [k0_pay4])
  · rw [View.readCov_skip _ _ _ _ _ (by decide)]; rw [View.readCov_skip _ _ _ _ _ (by decide)]; rw [View.readCov_skip _ _ _ _ _ (by decide)]; rw [View.readCov_fill _ _ _ _ _ (by decide)]
    exact (kept_4096 (k0_pay4 (F := Ideal)) j k).trans (by pointwise [k0_pay4])

/-- The row a later point stores: the kept rows are the point before's. -/
theorem later (h0 : ¬t.val % 8 = 0) (a : Fin 1) (r : Fin 512) (d : Fin 1024) :
    (outsAt0 m c t.val t.isLt).1 (ix3 a r d) = stored (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r d := by
  rw [outsAt0_B m c t h0]
  dsimp only
  frame_out
  refine stored_at (iblk m c 0 t) (iblk m c 1 t) (iblk m c 2 t) (iblk m c 3 t) (iblk m c 4 t) (iblk m c 5 t) (iblk m c 6 t) _ _ _ _ _ ?_ ?_ ?_ ?_ a r d <;> intro j k
  · rw [read_unread_whole]; exact kept_0 _ j k
  · rw [read_unread_whole]; exact kept_2816 _ j k
  · rw [read_unread_whole]; exact kept_1280 _ j k
  · rw [read_unread_whole]; exact kept_4096 _ j k

/-- The reference's result, over this program's arguments. -/
abbrev ref : Vec Ideal S16x4096x1024 .f32 :=
  Cert.FfnReferenceIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- A hidden column of the reference, one sequence. -/
def col (b : Fin 16) (e : Fin 5632) (r : Fin 4096) : EReal :=
  Cert.FfnReferenceIdeal.Read.val_main_v13 (F := Ideal) (m ((c : Thread nD τ).loc main_arg0)) (m ((c : Thread nD τ).loc main_arg1)) (m ((c : Thread nD τ).loc main_arg3)) (ix3 b r e)

/-- A hidden column of a block is a piece of it. -/
theorem hid_col (e : Fin 5632) (r : Fin 512) : hid (iblk m c 0 t) (iblk m c 1 t) (iblk m c 3 t) e r = col m c (bat t) e (row t r) := by
  unfold hid col
  rw [Cert.FfnReferenceIdeal.Rows.v13_at]
  simp only [blk0, blk1, blk3]

/-- A stored row is the reference's, when the kept rows are the eight rows above the tile. -/
theorem stored_ref (T : Vec Ideal S8x5632 .f32)
    (hT : ∀ (e : Fin 5632) (j : Fin 8), T (ix2 j e) = if h : t.val % 8 = 0 then 0 else col m c (bat t) e ⟨512 * (t.val % 8) - 8 + j.val, by have := j.isLt; omega⟩)
    (r : Fin 512) (d : Fin 1024) :
    stored (iblk m c 0 t) (iblk m c 1 t) (iblk m c 2 t) (iblk m c 3 t) (iblk m c 4 t) (iblk m c 5 t) (iblk m c 6 t) T r d = ref m c (ix3 (bat t) (row t r) d) := by
  unfold ref
  rw [Cert.FfnReferenceIdeal.Rows.v56_at]
  unfold stored
  simp only [blk0, blk2, blk4, blk5, blk6]
  refine congrArg (fun cv => ffnRow _ _ _ cv d) (funext fun e => ?_)
  rw [Cert.FfnReferenceIdeal.Rows.v37_at]
  rw [show hid (iblk m c 0 t) (iblk m c 1 t) (iblk m c 3 t) e = fun r => col m c (bat t) e (row t r) from funext fun r => hid_col m c t e r]
  exact tap_causal (col m c (bat t) e) (t.val % 8) (Nat.mod_lt _ (by decide)) _ (hT e) _ _ r

/-- What a grid point stores is its block of the reference's result. -/
theorem point (a : Fin 1) (r : Fin 512) (d : Fin 1024) : (outsAt0 m c t.val t.isLt).1 (ix3 a r d) = ref m c (ix3 (bat t) (row t r) d) := by
  by_cases h0 : t.val % 8 = 0
  · rw [first m c t h0]
    exact stored_ref m c t _ (fun e j => by rw [dif_pos h0]) r d
  · rw [later m c t h0]
    refine stored_ref m c t _ (fun e j => ?_) r d
    rw [dif_neg h0]
    refine (kept m c ⟨t.val - 1, Nat.lt_of_le_of_lt (Nat.sub_le _ _) t.isLt⟩ j e).trans ((hid_col m c _ e _).trans ?_)
    have hj := j.isLt
    refine congrArg₂ (fun b r => col m c b e r) (Fin.ext ?_) (Fin.ext ?_)
    · show (t.val - 1) / 8 = t.val / 8; omega
    · show 512 * ((t.val - 1) % 8) + (504 + j.val) = 512 * (t.val % 8) - 8 + j.val; omega

/-- Where an index of the output's block lies in the array. -/
theorem emb7 (X : Vec Ideal S16x4096x1024 .f32) (a : Fin 1) (r : Fin 512) (d : Fin 1024) :
    X (ix3 (bat t) (row t r) d) = X ((win0_7.blk t).view.emb (ix3 a r d)) := by
  blk_ext [idx t, bat, row]

/-- The same at any index of the block. -/
theorem point_emb (y : S1x512x1024.Idx) : (outsAt0 m c t.val t.isLt).1 y = ref m c ((win0_7.blk t).view.emb y) := by
  obtain ⟨a, r, d, rfl⟩ : ∃ (a : Fin 1) (r : Fin 512) (d : Fin 1024), y = ix3 a r d := ⟨y 0, y 1, y 2, by funext x; fin_cases x <;> rfl⟩
  exact (point m c t a r d).trans (emb7 t (ref m c) a r d)

/-- The array the kernel leaves is the reference's result. -/
theorem final : (dats m 0 c).arrAt 7 (cfgs 0).N = ref m c := by
  refine (dats m 0 c).arrAt_eq_of_covers 7 _ (by decide +kernel) fun t hf y => ?_
  blk_simp
  rw [after0_7]
  exact point_emb m c t y

end Cert.FfnIdeal.Rows

end
-- ==== Proof.MergeRows.lean ====
/- The merge kernel's body, read one row at a time: what a grid point stores is the row formula of its input blocks. -/
module

public import proofs.«01_k».proof.Proof.RowSpec
public import proofs.«01_k».proof.Proof.Gen.MergeIdeal.Value
public import Idealize.ShloMosaic.Lib.Pipeline.ValueKit
public import Idealize.ShloMosaic.Lib.Pointwise

@[expose] public section

set_option maxRecDepth 16384

noncomputable section

namespace Cert.MergeIdeal.Rows

open Idealize.ShloMosaic Idealize.ShloMosaic.TcCoe Idealize.SL.Sem
open Idealize.ShloMosaic.Pipeline (Dat)
open Cert.MergeIdeal Cert.MergeIdeal.Gen Cert.RowSpec

/-- The normed rows. -/
theorem pay2_at (v0 : Vec Ideal S1x512x1024 .f32) (v2 : Vec Ideal S1x1024 .f32) (r : Fin 512) (k : Fin 1024) :
    k0_pay2 v0 v2 (ix2 r k) = rms (fun k => v0 (ix3 0 r k)) (fun k => v2 (ix2 0 k)) k := by
  pointwise [k0_pay2, k0_pay1, rms]

/-- The first gate's exponential. -/
theorem pay7_at (v0 : Vec Ideal S1x512x1024 .f32) (v2 : Vec Ideal S1x1024 .f32) (v25 : Vec Ideal S1x1024x1024 .bf16) (r : Fin 512) (e : Fin 1024) :
    k0_pay7 v0 v2 v25 (ix2 r e) = Ideal.exp (-∑ k : Fin 1024, k0_pay2 v0 v2 (ix2 r k) * v25 (ix3 0 k e)) := by
  pointwise [k0_pay7]
  rw [zero_sub]

/-- The first two branches' gated terms. -/
theorem pay9_at (v16 : FVec Ideal S512x1024 .bf16) (v18 : FVec Ideal S512x256 .bf16) (v20 : FVec Ideal S512x128 .bf16) (v30 : FVec Ideal S512x1024 .f32) (v35 : Vec Ideal S256x1024 .bf16) (v39 : Vec Ideal S1x1024x1024 .bf16) (v49 : Vec Ideal S128x1024 .bf16) (r : Fin 512) (e : Fin 1024) :
    k0_pay9 v16 v18 v20 v30 (k0_pay8 (F := Ideal)) v35 v39 v49 (ix2 r e)
      = Ideal.div 1 (1 + v30 (ix2 r e)) * (∑ j : Fin 256, v18 (ix2 r j) * v35 (ix2 j e))
        + logi (∑ k : Fin 1024, v16 (ix2 r k) * v39 (ix3 0 k e)) * (∑ j : Fin 128, v20 (ix2 r j) * v49 (ix2 j e)) := by
  pointwise [k0_pay9, k0_pay8, logi]
  rw [zero_sub]

/-- The third branch's gated term. -/
theorem pay10_at (v16 : FVec Ideal S512x1024 .bf16) (v22 : FVec Ideal S512x256 .bf16) (v54 : Vec Ideal S1x1024x1024 .bf16) (v64 : Vec Ideal S256x1024 .bf16) (r : Fin 512) (e : Fin 1024) :
    k0_pay10 v16 v22 v54 v64 (ix2 r e) = logi (∑ k : Fin 1024, v16 (ix2 r k) * v54 (ix3 0 k e)) * (∑ j : Fin 256, v22 (ix2 r j) * v64 (ix2 j e)) := by
  pointwise [k0_pay10, logi]
  rw [zero_sub]

/-- The merged rows projected, normed and added to the input rows. -/
theorem pay11_at (v1 : FVec Ideal S512x1024 .f32) (v16 : FVec Ideal S512x1024 .bf16) (v24 : FVec Ideal S512x256 .bf16) (v53 v67 : FVec Ideal S512x1024 .f32)
    (v69 : Vec Ideal S1x1024x1024 .bf16) (v79 : Vec Ideal S256x1024 .bf16) (v85 : Vec Ideal S1024x1024 .bf16) (v88 : Vec Ideal S1x1024 .f32) (a : Fin 1) (r : Fin 512) (d : Fin 1024) :
    k0_pay11 v1 v16 v24 v53 v67 v69 v79 v85 v88 (ix3 a r d)
      = v1 (ix2 r d) + rms (fun d => ∑ e : Fin 1024, (v53 (ix2 r e) + v67 (ix2 r e)
          + logi (∑ k : Fin 1024, v16 (ix2 r k) * v69 (ix3 0 k e)) * (∑ j : Fin 256, v24 (ix2 r j) * v79 (ix2 j e))) * v85 (ix2 e d)) (fun d => v88 (ix2 0 d)) d := by
  pointwise [k0_pay11, logi, rms]
  simp only [zero_sub]

theorem pay3_at (v : Vec Ideal S1x512x256 .bf16) (r : Fin 512) (j : Fin 256) : k0_pay3 v (ix2 r j) = v (ix3 0 r j) := by pointwise [k0_pay3]
theorem pay4_at (v : Vec Ideal S1x512x128 .bf16) (r : Fin 512) (j : Fin 128) : k0_pay4 v (ix2 r j) = v (ix3 0 r j) := by pointwise [k0_pay4]
theorem pay5_at (v : Vec Ideal S1x512x256 .bf16) (r : Fin 512) (j : Fin 256) : k0_pay5 v (ix2 r j) = v (ix3 0 r j) := by pointwise [k0_pay5]
theorem pay6_at (v : Vec Ideal S1x512x256 .bf16) (r : Fin 512) (j : Fin 256) : k0_pay6 v (ix2 r j) = v (ix3 0 r j) := by pointwise [k0_pay6]
theorem pay1_at (v : Vec Ideal S1x512x1024 .f32) (r : Fin 512) (j : Fin 1024) : k0_pay1 v (ix2 r j) = v (ix3 0 r j) := by pointwise [k0_pay1]

/-- What the body stores, at row `r` of the block: the row formula of the blocks' rows (the second branch as it lies in memory,
    its weight's rows taken with their halves exchanged). -/
theorem out_at (x0 : Vec Ideal S1x512x1024 .f32) (x1 : Vec Ideal S1x512x256 .bf16) (x2 : Vec Ideal S1x512x128 .bf16) (x3 x4 : Vec Ideal S1x512x256 .bf16)
    (x5 x6 : Vec Ideal S1x1024 .f32) (x7 : Vec Ideal S4x1024x1024 .bf16) (x8 : Vec Ideal S256x1024 .bf16) (x9 : Vec Ideal S128x1024 .bf16)
    (x10 x11 : Vec Ideal S256x1024 .bf16) (x12 : Vec Ideal S1024x1024 .bf16) (a : Fin 1) (r : Fin 512) (d : Fin 1024) :
    out0_13 x0 x1 x2 x3 x4 x5 x6 x7 x8 x9 x10 x11 x12 (ix3 a r d)
      = mergeRow (fun k => x0 (ix3 0 r k)) (fun j => x1 (ix3 0 r j)) (fun j => x2 (ix3 0 r (swap j))) (fun j => x3 (ix3 0 r j)) (fun j => x4 (ix3 0 r j))
          (fun k => x5 (ix2 0 k)) (fun d => x6 (ix2 0 d)) (fun n k e => x7 (ix3 n k e)) (fun j e => x8 (ix2 j e)) (fun j e => x9 (ix2 j e))
          (fun j e => x10 (ix2 j e)) (fun j e => x11 (ix2 j e)) (fun e d => x12 (ix2 e d)) d := by
  have h0 : ∀ k e : Fin 1024, View.ld x7 r0_4 (ix3 0 k e) = x7 (ix3 0 k e) := fun k e => View.ld_unit_apply_of x7 _ _ _ _ _ fun a => by fin_cases a <;> simp [ix3]
  have h1 : ∀ k e : Fin 1024, View.ld x7 r0_6 (ix3 0 k e) = x7 (ix3 1 k e) := fun k e => View.ld_unit_apply_of x7 _ _ _ _ _ fun a => by fin_cases a <;> simp [ix3]
  have h2 : ∀ k e : Fin 1024, View.ld x7 r0_8 (ix3 0 k e) = x7 (ix3 2 k e) := fun k e => View.ld_unit_apply_of x7 _ _ _ _ _ fun a => by fin_cases a <;> simp [ix3]
  have h3 : ∀ k e : Fin 1024, View.ld x7 r0_9 (ix3 0 k e) = x7 (ix3 3 k e) := fun k e => View.ld_unit_apply_of x7 _ _ _ _ _ fun a => by fin_cases a <;> simp [ix3]
  frame_out
  rw [pay11_at]
  simp only [pay9_at, pay10_at, pay7_at, pay6_at, pay5_at, pay4_at, pay3_at, pay1_at]
  have h12 : k0_pay12 x0 x1 x2 x3 x4 x5 x6 x7 x8 x9 x10 x11 x12 = k0_pay2 x0 x5 := by unfold k0_pay12; frame_out
  simp only [h12, pay2_at, h0, h1, h2, h3, mergeRow, merged, swap_swap, logi]

end Cert.MergeIdeal.Rows

end
-- ==== Proof.MergeReference.lean ====
/- The merge reference, read one row at a time: the row formula. -/
module

public import proofs.«01_k».proof.Proof.RowSpec
public import proofs.«01_k».proof.Proof.Gen.MergeReferenceIdeal.Read
public import Idealize.ShloMosaic.Lib.Pipeline.ValueKit
public import Idealize.ShloMosaic.Lib.Pointwise

@[expose] public section

set_option maxRecDepth 16384

noncomputable section

namespace Cert.MergeReferenceIdeal.Rows

open Idealize.ShloMosaic Idealize.ShloMosaic.TcCoe Idealize.SL.Sem
open Cert.MergeReferenceIdeal Cert.MergeReferenceIdeal.Gen Cert.MergeReferenceIdeal.Read Cert.RowSpec

variable (x0 : Vec Ideal S16x4096x1024 .f32) (x1 : Vec Ideal S16x4096x256 .f32) (x2 : Vec Ideal S16x4096x128 .f32) (x3 x4 : Vec Ideal S16x4096x256 .f32)
  (x5 x6 : Vec Ideal S1024 .f32) (x7 : Vec Ideal S4x1024x1024 .f32) (x8 : Vec Ideal S256x1024 .f32) (x9 : Vec Ideal S128x1024 .f32)
  (x10 x11 : Vec Ideal S256x1024 .f32) (x12 : Vec Ideal S1024x1024 .f32)

/-- The normed rows. -/
theorem v12_at (b : Fin 16) (r : Fin 4096) (k : Fin 1024) :
    val_main_v12 (F := Ideal) x0 x5 (ix3 b r k) = rms (fun k => x0 (ix3 b r k)) (fun k => x5 (ix1 k)) k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, rms]

/-- The second branch with its halves exchanged. -/
theorem v15_at (b : Fin 16) (r : Fin 4096) (j : Fin 128) :
    val_main_v15 (F := Ideal) x2 (ix3 b r j) = x2 (ix3 b r (swap j)) := by
  pointwise [val_main_v13, val_main_v14, val_main_v15]
  have := j.isLt
  split <;> exact congrArg (fun n => x2 (ix3 b r n)) (Fin.ext (by simp only [swap]; omega))

/-- The four gates. -/
theorem v24_at (b : Fin 16) (r : Fin 4096) (e : Fin 1024) :
    val_main_v24 (F := Ideal) x0 x5 x7 (ix3 b r e) = logi (∑ k, val_main_v12 (F := Ideal) x0 x5 (ix3 b r k) * x7 (ix3 0 k e)) := by
  pointwise [val_main_v16, val_main_v17, val_main_v18, val_main_v19, val_main_v20, val_main_cst_2, val_main_v21, val_main_v22, val_main_cst_3, val_main_v23, val_main_v24, logi]

theorem v35_at (b : Fin 16) (r : Fin 4096) (e : Fin 1024) :
    val_main_v35 (F := Ideal) x0 x5 x7 (ix3 b r e) = logi (∑ k, val_main_v12 (F := Ideal) x0 x5 (ix3 b r k) * x7 (ix3 1 k e)) := by
  pointwise [val_main_v27, val_main_v28, val_main_v29, val_main_v30, val_main_v31, val_main_cst_4, val_main_v32, val_main_v33, val_main_cst_5, val_main_v34, val_main_v35, logi]

theorem v47_at (b : Fin 16) (r : Fin 4096) (e : Fin 1024) :
    val_main_v47 (F := Ideal) x0 x5 x7 (ix3 b r e) = logi (∑ k, val_main_v12 (F := Ideal) x0 x5 (ix3 b r k) * x7 (ix3 2 k e)) := by
  pointwise [val_main_v39, val_main_v40, val_main_v41, val_main_v42, val_main_v43, val_main_cst_6, val_main_v44, val_main_v45, val_main_cst_7, val_main_v46, val_main_v47, logi]

theorem v59_at (b : Fin 16) (r : Fin 4096) (e : Fin 1024) :
    val_main_v59 (F := Ideal) x0 x5 x7 (ix3 b r e) = logi (∑ k, val_main_v12 (F := Ideal) x0 x5 (ix3 b r k) * x7 (ix3 3 k e)) := by
  pointwise [val_main_v51, val_main_v52, val_main_v53, val_main_v54, val_main_v55, val_main_cst_8, val_main_v56, val_main_v57, val_main_cst_9, val_main_v58, val_main_v59, logi]

/-- The four gated projections added. -/
theorem v62_at (b : Fin 16) (r : Fin 4096) (e : Fin 1024) :
    val_main_v62 (F := Ideal) x0 x1 x2 x3 x4 x5 x7 x8 x9 x10 x11 (ix3 b r e)
      = merged (fun k => x0 (ix3 b r k)) (fun j => x1 (ix3 b r j)) (fun j => x2 (ix3 b r j)) (fun j => x3 (ix3 b r j)) (fun j => x4 (ix3 b r j))
          (fun k => x5 (ix1 k)) (fun n k e => x7 (ix3 n k e)) (fun j e => x8 (ix2 j e)) (fun j e => x9 (ix2 j e)) (fun j e => x10 (ix2 j e)) (fun j e => x11 (ix2 j e)) e := by
  simp only [merged, ← v12_at x0 x5, ← v15_at x2, ← v24_at x0 x5 x7, ← v35_at x0 x5 x7, ← v47_at x0 x5 x7, ← v59_at x0 x5 x7]
  pointwise [val_main_v25, val_main_v26, val_main_v36, val_main_v37, val_main_v38, val_main_v48, val_main_v49, val_main_v50, val_main_v60, val_main_v61, val_main_v62]

/-- The whole reference at a row: the row formula. -/
theorem v77_at (b : Fin 16) (r : Fin 4096) (d : Fin 1024) :
    val_main_v77 (F := Ideal) x0 x1 x2 x3 x4 x5 x6 x7 x8 x9 x10 x11 x12 (ix3 b r d)
      = mergeRow (fun k => x0 (ix3 b r k)) (fun j => x1 (ix3 b r j)) (fun j => x2 (ix3 b r j)) (fun j => x3 (ix3 b r j)) (fun j => x4 (ix3 b r j))
          (fun k => x5 (ix1 k)) (fun d => x6 (ix1 d)) (fun n k e => x7 (ix3 n k e)) (fun j e => x8 (ix2 j e)) (fun j e => x9 (ix2 j e))
          (fun j e => x10 (ix2 j e)) (fun j e => x11 (ix2 j e)) (fun e d => x12 (ix2 e d)) d := by
  simp only [mergeRow, ← v62_at x0 x1 x2 x3 x4 x5 x7 x8 x9 x10 x11]
  have h63 : ∀ d : Fin 1024, val_main_v63 (F := Ideal) x0 x1 x2 x3 x4 x5 x7 x8 x9 x10 x11 x12 (ix3 b r d)
      = ∑ e, val_main_v62 (F := Ideal) x0 x1 x2 x3 x4 x5 x7 x8 x9 x10 x11 (ix3 b r e) * x12 (ix2 e d) := fun d => by pointwise [val_main_v63]
  simp only [← h63]
  pointwise [val_main_v64, val_main_cst_10, val_main_v65, val_main_v66, val_main_cst_11, val_main_v67, val_main_v68, val_main_cst_12, val_main_v69, val_main_v70, val_main_v71, val_main_v72, val_main_v73, val_main_v74, val_main_v75, val_main_v76, val_main_v77, rms]

end Cert.MergeReferenceIdeal.Rows

end
-- ==== Proof.Merge.lean ====
/- The merge call: the array the kernel leaves is its reference's. -/
module

public import proofs.«01_k».proof.Proof.MergeRows
public import proofs.«01_k».proof.Proof.MergeReference

@[expose] public section

set_option maxRecDepth 16384

noncomputable section

namespace Cert.MergeIdeal.Rows

open Idealize.ShloMosaic Idealize.ShloMosaic.TcCoe Idealize.SL.Sem
open Idealize.ShloMosaic.Pipeline (Dat)
open Cert.MergeIdeal Cert.MergeIdeal.Gen Cert.RowSpec

variable (m : (ℓ : Loc nD τ sig) → Buf (Elt Ideal) ℓ)

/-- The block every window reads or writes at a grid point. -/
theorem idx : ∀ t : Fin cfg0.N, win0_0.index t = ![t.val / 8, t.val % 8, 0]
    ∧ win0_1.index t = ![t.val / 8, t.val % 8, 0]
    ∧ win0_2.index t = ![t.val / 8, t.val % 8, 0]
    ∧ win0_3.index t = ![t.val / 8, t.val % 8, 0]
    ∧ win0_4.index t = ![t.val / 8, t.val % 8, 0]
    ∧ win0_5.index t = ![0, 0]
    ∧ win0_6.index t = ![0, 0]
    ∧ win0_7.index t = ![0, 0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val / 8, t.val % 8, 0] :=
  (by decide +kernel : ∀ t : Fin grid0.N, _)

/-- The batch a grid point works on. -/
def bat (t : Fin cfg0.N) : Fin 16 := ⟨t.val / 8, Nat.div_lt_of_lt_mul t.isLt⟩

/-- The row of the array that is row `r` of the point's block. -/
def row (t : Fin cfg0.N) (r : Fin 512) : Fin 4096 := ⟨512 * (t.val % 8) + r.val, by have := r.isLt; omega⟩

variable (c : Dev nD) (t : Fin cfg0.N)

theorem blk0 (r : Fin 512) (k : Fin 1024) : iblk m c 0 t (ix3 0 r k) = m ((c : Thread nD τ).loc main_arg0) (ix3 (bat t) (row t r) k) := by
  blk_point [iblk, V, idx t, bat, row]
theorem blk1 (r : Fin 512) (k : Fin 256) : iblk m c 1 t (ix3 0 r k) = m ((c : Thread nD τ).loc main_arg1) (ix3 (bat t) (row t r) k) := by
  blk_point [iblk, V, idx t, bat, row]
theorem blk2 (r : Fin 512) (k : Fin 128) : iblk m c 2 t (ix3 0 r k) = m ((c : Thread nD τ).loc main_arg2) (ix3 (bat t) (row t r) k) := by
  blk_point [iblk, V, idx t, bat, row]
theorem blk3 (r : Fin 512) (k : Fin 256) : iblk m c 3 t (ix3 0 r k) = m ((c : Thread nD τ).loc main_arg3) (ix3 (bat t) (row t r) k) := by
  blk_point [iblk, V, idx t, bat, row]
theorem blk4 (r : Fin 512) (k : Fin 256) : iblk m c 4 t (ix3 0 r k) = m ((c : Thread nD τ).loc main_arg4) (ix3 (bat t) (row t r) k) := by
  blk_point [iblk, V, idx t, bat, row]
theorem blk5 (k : Fin 1024) : iblk m c 5 t (ix2 0 k) = m ((c : Thread nD τ).loc main_arg5) (ix1 k) := by
  blk_point [iblk, V, idx t]
theorem blk6 (k : Fin 1024) : iblk m c 6 t (ix2 0 k) = m ((c : Thread nD τ).loc main_arg6) (ix1 k) := by
  blk_point [iblk, V, idx t]
theorem blk7 (n : Fin 4) (k e : Fin 1024) : iblk m c 7 t (ix3 n k e) = m ((c : Thread nD τ).loc main_arg7) (ix3 n k e) := by
  blk_point [iblk, V, idx t]
theorem blk8 (j : Fin 256) (e : Fin 1024) : iblk m c 8 t (ix2 j e) = m ((c : Thread nD τ).loc main_arg8) (ix2 j e) := by
  blk_point [iblk, V, idx t]
theorem blk9 (j : Fin 128) (e : Fin 1024) : iblk m c 9 t (ix2 j e) = m ((c : Thread nD τ).loc main_arg9) (ix2 (swap j) e) := by
  blk_simp [iblk, idx t]
  entry_read
  have he : ((View.whole main_v11).slice (win0_9.rect t)).emb (ix2 j e) = ix2 j e := by
    funext a; apply Fin.ext; fin_cases a <;> blk_simp [idx t]
  rw [he]
  pointwise
  have := j.isLt
  split <;> exact congrArg (fun n => m ((c : Thread nD τ).loc main_arg9) (ix2 n e)) (Fin.ext (by simp only [swap]; omega))
theorem blk10 (j : Fin 256) (e : Fin 1024) : iblk m c 10 t (ix2 j e) = m ((c : Thread nD τ).loc main_arg10) (ix2 j e) := by
  blk_point [iblk, V, idx t]
theorem blk11 (j : Fin 256) (e : Fin 1024) : iblk m c 11 t (ix2 j e) = m ((c : Thread nD τ).loc main_arg11) (ix2 j e) := by
  blk_point [iblk, V, idx t]
theorem blk12 (e d : Fin 1024) : iblk m c 12 t (ix2 e d) = m ((c : Thread nD τ).loc main_arg12) (ix2 e d) := by
  blk_point [iblk, V, idx t]

/-- The reference's result, over this program's arguments. -/
abbrev ref : Vec Ideal S16x4096x1024 .f32 :=
  Cert.MergeReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What a grid point stores is its block of the reference's result. -/
theorem point (a : Fin 1) (r : Fin 512) (d : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 a r d)
      = ref m c (ix3 (bat t) (row t r) d) := by
  unfold ref
  rw [out_at, Cert.MergeReferenceIdeal.Rows.v77_at]
  simp only [blk0, blk1, blk2, blk3, blk4, blk5, blk6, blk7, blk8, blk9, blk10, blk11, blk12]
  simp only [mergeRow]
  simp only [merged_swap _ _ (fun j => m ((c : Thread nD τ).loc main_arg2) (ix3 (bat t) (row t r) j)) _ _ _ _ _ (fun j e => m ((c : Thread nD τ).loc main_arg9) (ix2 j e))]

/-- Where an index of the output's block lies in the array. -/
theorem emb13 (X : Vec Ideal S16x4096x1024 .f32) (a : Fin 1) (r : Fin 512) (d : Fin 1024) :
    X (ix3 (bat t) (row t r) d) = X ((win0_13.blk t).view.emb (ix3 a r d)) := by
  blk_ext [idx t, bat, row]

/-- The same at any index of the block. -/
theorem point_emb (y : S1x512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = ref m c ((win0_13.blk t).view.emb y) := by
  obtain ⟨a, r, d, rfl⟩ : ∃ (a : Fin 1) (r : Fin 512) (d : Fin 1024), y = ix3 a r d := ⟨y 0, y 1, y 2, by funext x; fin_cases x <;> rfl⟩
  exact (point m c t a r d).trans (emb13 t (ref m c) a r d)

/-- The array the kernel leaves is the reference's result. -/
theorem final : (dats m 0 c).arrAt 13 (cfgs 0).N = ref m c := by
  refine (dats m 0 c).arrAt_eq_of_covers 13 _ (by decide +kernel) fun t hf y => ?_
  blk_simp
  rw [after0_13]
  exact point_emb m c t y

end Cert.MergeIdeal.Rows

end
-- ==== Proof.Online.lean ====
/- The running softmax of a tiled causal attention row, over real logits and any values: keys are met a tile at a time, the largest
   base-2 logit met so far and the sums scaled by it are carried along, and the quotient of two lanes at the end is the
   softmax average over the keys that causality keeps. -/
module

public import Idealize.ShloMosaic.PureOps
public import Idealize.ShloMosaic.Lib.Pipeline.ValueKit

@[expose] public section

noncomputable section

namespace Cert.Online

open Idealize.ShloMosaic

/-- The largest logit after one more tile. -/
def stepM (S : Fin 512 → EReal) (m : EReal) : EReal := max m (Finset.univ.fold max ⊥ S)

/-- The scaled sums after one more tile. -/
def stepA (S : Fin 512 → EReal) (m : EReal) (A : Fin 128 → EReal) (V : Fin 512 → Fin 128 → EReal) (l : Fin 128) : EReal :=
  Ideal.exp2 (m - stepM S m) * A l + ∑ c : Fin 512, Ideal.exp2 (S c - stepM S m) * V c l

/-- The carried maximum and sums after `n` tiles. -/
def run (S : ℕ → Fin 512 → EReal) (V : ℕ → Fin 512 → Fin 128 → EReal) : ℕ → EReal × (Fin 128 → EReal)
  | 0 => (⊥, fun _ => 0)
  | n + 1 => (stepM (S n) (run S V n).1, stepA (S n) (run S V n).1 (run S V n).2 (V n))

/-- The key at place `c` of tile `j`. -/
def key (j : ℕ) (c : Fin 512) : Fin 4096 := ⟨(512 * j + c.val) % 4096, Nat.mod_lt _ (by decide)⟩

/-- The sum of the weights of the keys that causality keeps. -/
def mass (q : ℕ) (L : Fin 4096 → ℝ) : ℝ := ∑ k : Fin 4096, if k.val ≤ q then Real.exp (L k) else 0

/-- The causal softmax average of `V` with logits `L` at query `q`. -/
def soft (q : ℕ) (L : Fin 4096 → ℝ) (V : Fin 4096 → EReal) : EReal :=
  ∑ k : Fin 4096, ((if k.val ≤ q then Real.exp (L k) / mass q L else 0 : ℝ) : EReal) * V k

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A real factor that is not negative goes into a sum, whatever the terms. -/
theorem mul_sum_real {ι : Type*} (s : Finset ι) (a : ℝ) (ha : 0 ≤ a) (f : ι → EReal) : (a : EReal) * ∑ i ∈ s, f i = ∑ i ∈ s, (a : EReal) * f i := by
  classical
  induction s using Finset.induction_on with
  | empty => simp
  | insert i s h ih => rw [Finset.sum_insert h, Finset.sum_insert h, EReal.left_distrib_of_nonneg_of_ne_top (EReal.coe_nonneg.mpr ha) (EReal.coe_ne_top a), ih]

/-- The largest of finitely many kept real logits is real, at least each of them, and one of them. -/
theorem fold_real {ι : Type*} [Fintype ι] (s : ι → ℝ) (keep : ι → Prop) [DecidablePred keep] (h : ∃ c, keep c) :
    ∃ μ : ℝ, Finset.univ.fold max ⊥ (fun c => if keep c then (s c : EReal) else ⊥) = μ ∧ (∀ c, keep c → s c ≤ μ) ∧ ∃ c, keep c ∧ s c = μ := by
  classical
  obtain ⟨c0, h0⟩ := h
  obtain ⟨c1, h1, hmax⟩ := Finset.exists_max_image (Finset.univ.filter keep) s ⟨c0, by simpa using h0⟩
  have hk : keep c1 := by simpa using h1
  refine ⟨s c1, le_antisymm ?_ ?_, fun c hc => hmax c (by simpa using hc), c1, hk, rfl⟩
  · rw [Finset.fold_max_le]
    refine ⟨bot_le, fun c _ => ?_⟩
    by_cases hc : keep c
    · rw [if_pos hc]; exact EReal.coe_le_coe_iff.mpr (hmax c (by simpa using hc))
    · rw [if_neg hc]; exact bot_le
  · rw [Finset.le_fold_max]
    exact Or.inr ⟨c1, Finset.mem_univ _, by rw [if_pos hk]⟩

theorem exp2_sub (x μ : ℝ) : Ideal.exp2 ((x : EReal) - (μ : EReal)) = (Real.exp (Real.log 2 * (x - μ)) : EReal) := by
  rw [← EReal.coe_sub, Ideal.exp2_coe]
  exact congrArg _ (Real.rpow_def_of_pos (by norm_num) _)

theorem exp2_keep (p : Prop) [Decidable p] (x μ : ℝ) :
    Ideal.exp2 ((if p then (x : EReal) else ⊥) - (μ : EReal)) = ((if p then Real.exp (Real.log 2 * (x - μ)) else 0 : ℝ) : EReal) := by
  by_cases h : p
  · simp only [if_pos h]; exact exp2_sub x μ
  · simp only [if_neg h, EReal.bot_sub]; simp

/-- What is carried after `n + 1` tiles: some real `μ`, and the sums of the kept keys' values weighted by two to their logit less `μ`. -/
theorem run_real (s : ℕ → Fin 512 → ℝ) (keep : ℕ → Fin 512 → Prop) [∀ j, DecidablePred (keep j)]
    (S : ℕ → Fin 512 → EReal) (V : ℕ → Fin 512 → Fin 128 → EReal) (n : ℕ)
    (hS : ∀ j ≤ n, ∀ c, S j c = if keep j c then (s j c : EReal) else ⊥) (hk : ∀ j ≤ n, ∃ c, keep j c) :
    ∃ μ : ℝ, (run S V (n + 1)).1 = μ ∧ ∀ l, (run S V (n + 1)).2 l
      = ∑ j ∈ Finset.range (n + 1), ∑ c : Fin 512, ((if keep j c then Real.exp (Real.log 2 * (s j c - μ)) else 0 : ℝ) : EReal) * V j c l := by
  have tile : ∀ j ≤ n, ∀ (μ : ℝ) (l : Fin 128), (∑ c : Fin 512, Ideal.exp2 (S j c - (μ : EReal)) * V j c l)
      = ∑ c : Fin 512, ((if keep j c then Real.exp (Real.log 2 * (s j c - μ)) else 0 : ℝ) : EReal) * V j c l := fun j hj μ l =>
    Finset.sum_congr rfl fun c _ => by rw [hS j hj c, exp2_keep]
  have top : ∀ j ≤ n, ∃ ν : ℝ, Finset.univ.fold max ⊥ (S j) = (ν : EReal) := fun j hj => by
    obtain ⟨ν, h, -⟩ := fold_real (s j) (keep j) (hk j hj)
    exact ⟨ν, by rw [← h]; exact congrArg (Finset.fold max ⊥ · Finset.univ) (funext (hS j hj))⟩
  induction n with
  | zero =>
    obtain ⟨ν, hν⟩ := top 0 le_rfl
    have hm : stepM (S 0) ⊥ = (ν : EReal) := by rw [stepM, hν]; exact max_eq_right bot_le
    refine ⟨ν, hm, fun l => ?_⟩
    show stepA (S 0) ⊥ (fun _ => 0) (V 0) l = _
    rw [stepA, hm, tile 0 le_rfl, mul_zero, zero_add, Finset.sum_range_one]
  | succ n ih =>
    obtain ⟨μ, hμ, hA⟩ := ih (fun j hj => hS j (by omega)) (fun j hj => hk j (by omega))
      (fun j hj => tile j (by omega)) (fun j hj => top j (by omega))
    obtain ⟨ν, hν⟩ := top (n + 1) le_rfl
    have hm : stepM (S (n + 1)) (run S V (n + 1)).1 = ((max μ ν : ℝ) : EReal) := by
      rw [stepM, hν, hμ]; exact (Monotone.map_max (fun a b h => EReal.coe_le_coe_iff.mpr h)).symm
    refine ⟨max μ ν, hm, fun l => ?_⟩
    show stepA (S (n + 1)) (run S V (n + 1)).1 (run S V (n + 1)).2 (V (n + 1)) l = _
    rw [stepA, hm, tile (n + 1) le_rfl, hA, hμ, exp2_sub, Finset.sum_range_succ _ (n + 1)]
    refine congrArg (· + _) ?_
    rw [mul_sum_real _ _ (Real.exp_pos _).le]
    refine Finset.sum_congr rfl fun j _ => ?_
    rw [mul_sum_real _ _ (Real.exp_pos _).le]
    refine Finset.sum_congr rfl fun c _ => ?_
    rw [← mul_assoc, ← EReal.coe_mul]
    refine congrArg (fun z : ℝ => (z : EReal) * _) ?_
    by_cases h : keep j c
    · rw [if_pos h, if_pos h, ← Real.exp_add]
      ring_nf
    · rw [if_neg h, if_neg h, mul_zero]

/-- A sum over the tiles up to the query's own is the sum over all keys, where the terms past the query vanish. -/
theorem sum_tiles (i : ℕ) (hi : i < 8) (f : Fin 4096 → EReal) (h0 : ∀ k : Fin 4096, 512 * (i + 1) ≤ k.val → f k = 0) :
    ∑ j ∈ Finset.range (i + 1), ∑ c : Fin 512, f (key j c) = ∑ k : Fin 4096, f k := by
  have g : ∀ n, ∑ j ∈ Finset.range n, ∑ c : Fin 512, f (key j c) = ∑ x ∈ Finset.range (512 * n), f ⟨x % 4096, Nat.mod_lt _ (by decide)⟩ := fun n => by
    induction n with
    | zero => simp
    | succ n ih =>
      rw [Finset.sum_range_succ, ih, Nat.mul_succ, Finset.sum_range_add]
      exact congrArg _ (Fin.sum_univ_eq_sum_range (fun x => f ⟨(512 * n + x) % 4096, Nat.mod_lt _ (by decide)⟩) 512)
  rw [g, Finset.sum_subset (Finset.range_mono (show 512 * (i + 1) ≤ 4096 by omega))]
  · rw [← Fin.sum_univ_eq_sum_range (fun x => f ⟨x % 4096, Nat.mod_lt _ (by decide)⟩) 4096]
    exact Finset.sum_congr rfl fun k _ => congrArg f (Fin.ext (Nat.mod_eq_of_lt k.isLt))
  · intro x hx hx'
    rw [Finset.mem_range] at hx hx'
    exact h0 _ (by show _ ≤ x % 4096; rw [Nat.mod_eq_of_lt hx]; omega)

theorem mass_pos (q : ℕ) (L : Fin 4096 → ℝ) : 0 < mass q L := by
  refine Finset.sum_pos' (fun k _ => ?_) ⟨0, Finset.mem_univ _, ?_⟩
  · split
    · exact (Real.exp_pos _).le
    · exact le_rfl
  · rw [if_pos (show (0 : Fin 4096).val ≤ q from Nat.zero_le _)]; exact Real.exp_pos _

/-- A common factor of the weights leaves the average. -/
theorem soft_shift (q : ℕ) (L L' : Fin 4096 → ℝ) (V : Fin 4096 → EReal) (d : ℝ) (h : ∀ k : Fin 4096, k.val ≤ q → L' k = L k + d) : soft q L' V = soft q L V := by
  have e : mass q L' = mass q L * Real.exp d := by
    unfold mass
    rw [Finset.sum_mul]
    refine Finset.sum_congr rfl fun k _ => ?_
    by_cases hk : k.val ≤ q
    · rw [if_pos hk, if_pos hk, h k hk, Real.exp_add]
    · rw [if_neg hk, if_neg hk, zero_mul]
  unfold soft
  refine Finset.sum_congr rfl fun k _ => congrArg (fun z : ℝ => (z : EReal) * V k) ?_
  by_cases hk : k.val ≤ q
  · rw [if_pos hk, if_pos hk, h k hk, Real.exp_add, e, mul_div_mul_right _ _ (Real.exp_pos d).ne']
  · rw [if_neg hk, if_neg hk]

theorem div_real (x : ℝ) {y : ℝ} (h : y ≠ 0) : Ideal.div (x : EReal) (y : EReal) = ((x / y : ℝ) : EReal) := by
  rw [Ideal.div_coe h, ← EReal.coe_mul, mul_one_div]

/-- One query row of the tiled attention: the tiles before the query's own in full, its own under the causal penalty, and
    the quotient by a lane whose values are all one: the causal softmax average. -/
theorem tiled (i : ℕ) (hi : i < 8) (r : Fin 512) (s : Fin 4096 → ℝ) (v : Fin 4096 → Fin 128 → EReal) (l l0 : Fin 128) (h1 : ∀ k, v k l0 = 1)
    (S : ℕ → Fin 512 → EReal) (V : ℕ → Fin 512 → Fin 128 → EReal)
    (hS : ∀ j < i, ∀ c, S j c = (s (key j c) : EReal)) (hd : ∀ c, S i c = (s (key i c) : EReal) + if c ≤ r then 0 else ⊥)
    (hV : ∀ j ≤ i, ∀ c l, V j c l = v (key j c) l) :
    Ideal.div ((run S V (i + 1)).2 l) ((run S V (i + 1)).2 l0)
      = soft (512 * i + r.val) (fun k => Real.log 2 * s k) (fun k => v k l) := by
  obtain ⟨μ, -, hA⟩ := run_real (fun j c => s (key j c)) (fun j c => 512 * j + c.val ≤ 512 * i + r.val) S V i
    (fun j hj c => by
      rcases Nat.lt_or_eq_of_le hj with h | rfl
      · rw [hS j h c, if_pos (by omega)]
      · rw [hd c]
        by_cases hc : c ≤ r
        · rw [if_pos hc, if_pos (by have := Fin.le_def.mp hc; omega), add_zero]
        · rw [if_neg hc, if_neg (by rw [Fin.le_def] at hc; omega), EReal.add_bot])
    (fun j hj => ⟨0, by show 512 * j + 0 ≤ _; omega⟩)
  have hsum : ∀ l, (run S V (i + 1)).2 l = ∑ k : Fin 4096, ((if k.val ≤ 512 * i + r.val then Real.exp (Real.log 2 * (s k - μ)) else 0 : ℝ) : EReal) * v k l := fun l => by
    rw [hA l, ← sum_tiles i hi _ (fun k hk => by rw [if_neg (by omega), EReal.coe_zero, zero_mul])]
    refine Finset.sum_congr rfl fun j hj => Finset.sum_congr rfl fun c _ => ?_
    rw [Finset.mem_range] at hj
    have hv : (key j c).val = 512 * j + c.val := Nat.mod_eq_of_lt (by omega)
    rw [hv, hV j (by omega)]
  have hone : (run S V (i + 1)).2 l0 = (mass (512 * i + r.val) (fun k => Real.log 2 * (s k - μ)) : EReal) := by
    rw [hsum l0, mass, coe_sum]
    exact Finset.sum_congr rfl fun k _ => by rw [h1 k, mul_one]
  rw [hsum l, hone, Ideal.div_coe (mass_pos _ _).ne', mul_comm, mul_sum_real _ _ (one_div_pos.mpr (mass_pos _ _)).le,
    ← soft_shift _ (fun k => Real.log 2 * s k) (fun k => Real.log 2 * (s k - μ)) _ (Real.log 2 * -μ) fun k _ => by ring]
  refine Finset.sum_congr rfl fun k _ => ?_
  rw [← mul_assoc, ← EReal.coe_mul]
  refine congrArg (fun z : ℝ => (z : EReal) * _) ?_
  by_cases h : k.val ≤ 512 * i + r.val
  · rw [if_pos h, if_pos h, one_div_mul_eq_div]
  · rw [if_neg h, if_neg h, mul_zero]

/-- The reference's row: the masked softmax with its largest logit taken out and its denominator kept from zero. -/
theorem masked (q : ℕ) (hq : q < 4096) (L : Fin 4096 → ℝ) (V : Fin 4096 → EReal) (e : ℝ) (he : e ≤ 1) (M D : EReal) (P : Fin 4096 → EReal)
    (hM : M = Finset.univ.fold max ⊥ fun k : Fin 4096 => if k.val ≤ q then (L k : EReal) else ⊥)
    (hP : ∀ k : Fin 4096, P k = if k.val ≤ q then Ideal.exp ((L k : EReal) - M) else 0) (hD : D = ∑ k, P k) :
    ∑ k : Fin 4096, Ideal.div (P k) (max D (e : EReal)) * V k = soft q L V := by
  obtain ⟨μ, hμ, -, c, hc, hcμ⟩ := fold_real L (fun k : Fin 4096 => k.val ≤ q) ⟨0, Nat.zero_le _⟩
  have hP' : ∀ k : Fin 4096, P k = ((if k.val ≤ q then Real.exp (L k - μ) else 0 : ℝ) : EReal) := fun k => by
    rw [hP k, hM, hμ]
    by_cases h : k.val ≤ q
    · rw [if_pos h, if_pos h, ← EReal.coe_sub, Ideal.exp_coe]
    · rw [if_neg h, if_neg h, EReal.coe_zero]
  have hD' : D = ((∑ k : Fin 4096, if k.val ≤ q then Real.exp (L k - μ) else 0 : ℝ) : EReal) := by
    rw [hD, coe_sum]; exact Finset.sum_congr rfl fun k _ => hP' k
  have hge : (1 : ℝ) ≤ ∑ k : Fin 4096, if k.val ≤ q then Real.exp (L k - μ) else 0 := by
    refine le_trans ?_ (Finset.single_le_sum (f := fun k : Fin 4096 => if k.val ≤ q then Real.exp (L k - μ) else 0) (fun k _ => ?_) (Finset.mem_univ c))
    · show (1 : ℝ) ≤ if c.val ≤ q then Real.exp (L c - μ) else 0
      rw [if_pos hc, hcμ, sub_self, Real.exp_zero]
    · show (0 : ℝ) ≤ if k.val ≤ q then Real.exp (L k - μ) else 0
      split
      · exact (Real.exp_pos _).le
      · exact le_rfl
  have hmax : max D (e : EReal) = D := max_eq_left (by rw [hD']; exact EReal.coe_le_coe_iff.mpr (he.trans hge))
  rw [hmax, hD', ← soft_shift q L (fun k => L k - μ) V (-μ) fun k _ => by ring]
  refine Finset.sum_congr rfl fun k _ => ?_
  rw [hP' k, div_real _ (by linarith)]
  refine congrArg (fun z : ℝ => (z : EReal) * _) ?_
  by_cases h : k.val ≤ q
  · rw [if_pos h, if_pos h]; rfl
  · rw [if_neg h, if_neg h, zero_div]

end Cert.Online
-- ==== Proof.Tile.lean ====
/- One tile of one head of the tiled attention, read an element at a time: its logits, its carried maximum and sums, the
   slabs of the buffers it reads, and the two heads' lanes side by side that are stored at the end. -/
module

public import proofs.«01_k».proof.Proof.Online
public import proofs.«01_k».proof.Proof.Gen.KernelIdeal.Skeleton
public import Idealize.ShloMosaic.Lib.Pipeline.ValueKit
public import Idealize.ShloMosaic.Lib.WritesUnit
public import Idealize.ShloMosaic.Lib.Pointwise

@[expose] public section

set_option maxRecDepth 16384

noncomputable section

namespace Cert.Tile

open Idealize.ShloMosaic Idealize.ShloMosaic.TcCoe Idealize.SL.Sem
open Cert.KernelIdeal Cert.KernelIdeal.Gen Cert.Online

/-- A tile's logits. -/
theorem scores_at (q k : Vec Ideal S1x512x128 .bf16) (r c : Fin 512) :
    k0_pay3 (F := Ideal) q k (ix2 r c) = ∑ l : Fin 128, q (ix3 0 r l) * k (ix3 0 c l) := by
  pointwise [k0_pay3]

theorem mask_bot : (Named.named (F := Ideal) κ "mask" 0xF149F2CA#32 : Ideal .f32) = (⊥ : EReal) :=
  rfl

theorem low_bot : Ideal.ofBits .f32 0xFF800000#32 = ⊥ := by
  simp [Ideal.ofBits, Ideal.ieee]

theorem lag_word (r c : Fin 512) : IntOp.cmpi .sge (IntOp.subi (BitVec.ofNat 32 r.val) (BitVec.ofNat 32 c.val)) 0#32 = if c ≤ r then 1#1 else 0#1 := by
  have hr := r.isLt
  have hc := c.isLt
  have e : (BitVec.ofNat 32 r.val - BitVec.ofNat 32 c.val).toInt = (r.val : ℤ) - c.val := by
    rw [BitVec.toInt_sub, BitVec.toInt_ofNat', BitVec.toInt_ofNat']
    rw [Int.bmod_eq_of_le (n := (r.val : ℤ)) (by omega) (by omega), Int.bmod_eq_of_le (n := (c.val : ℤ)) (by omega) (by omega), Int.bmod_eq_of_le (by omega) (by omega)]
  unfold IntOp.cmpi IntOp.subi
  show BitVec.ofBool ((0#32).sle (BitVec.ofNat 32 r.val - BitVec.ofNat 32 c.val)) = _
  rw [BitVec.sle_eq_decide, e]
  by_cases h : c ≤ r
  · rw [if_pos h, decide_eq_true (by have := Fin.le_def.mp h; simp; omega)]; rfl
  · rw [if_neg h, decide_eq_false (by rw [Fin.le_def] at h; simp; omega)]; rfl

theorem lane_word (l : Fin 128) : IntOp.cmpi .slt (BitVec.ofNat 32 l.val) 64#32 = if l.val < 64 then 1#1 else 0#1 := by
  revert l; decide +kernel

/-- A tile's logits under the causal penalty. -/
theorem diag_at (q k : Vec Ideal S1x512x128 .bf16) (r c : Fin 512) :
    k0_pay68 (F := Ideal) q k (ix2 r c) = (∑ l : Fin 128, q (ix3 0 r l) * k (ix3 0 c l)) + (if c ≤ r then 0 else ⊥) := by
  pointwise [k0_pay68, k0_pay67]
  rw [lag_word, mask_bot]
  by_cases h : c ≤ r
  · rw [if_pos h, if_pos h]; rfl
  · rw [if_neg h, if_neg h]; rfl

/-- The carried maximum after a tile. -/
theorem max_at (s : FVec Ideal S512x512 .f32) (m : Vec Ideal S1x512x128 .f32) (r : Fin 512) (l : Fin 128) :
    k0_pay16 (F := Ideal) s m (ix3 0 r l) = stepM (fun c => s (ix2 r c)) (m (ix3 0 r l)) := by
  pointwise [k0_pay16, k0_pay14, k0_pay13, stepM]
  rw [low_bot]

/-- The carried sums after a tile, where the maximum is the same in every lane. -/
theorem acc_at (s : FVec Ideal S512x512 .f32) (m a : Vec Ideal S1x512x128 .f32) (v : Vec Ideal S1x512x128 .bf16) (r : Fin 512) (l : Fin 128)
    (μ : EReal) (hm : ∀ l, m (ix3 0 r l) = μ) :
    k0_pay63 (F := Ideal) (k0_pay15 s m) (k0_pay17 s m) a v (ix3 0 r l)
      = stepA (fun c => s (ix2 r c)) μ (fun l => a (ix3 0 r l)) (fun c l => v (ix3 0 c l)) l := by
  pointwise [k0_pay63, k0_pay15, k0_pay17, k0_pay14, k0_pay13, stepA, stepM]
  simp only [hm, low_bot, dite_eq_ite, ite_self]
  rfl

/-- Two heads' quotients side by side: the first head's upper lanes, then the second head's. -/
theorem pair_at (a b : Vec Ideal S1x512x128 .f32) (r : Fin 512) (l : Fin 128) :
    k0_pay1 (k0_pay100 (F := Ideal) a b) (ix3 0 r l)
      = if h : l.val < 64 then Ideal.div (a (ix3 0 r ⟨64 + l.val, by omega⟩)) (a (ix3 0 r 0)) else Ideal.div (b (ix3 0 r l)) (b (ix3 0 r 0)) := by
  pointwise [k0_pay1, k0_pay100, k0_pay99]
  by_cases h : l.val < 64
  · rw [dif_pos h, lane_word, if_pos h]
    exact congrArg (fun x => Ideal.div (a (ix3 0 r x)) _) (Fin.ext (by show (l.val + 128 - 64) % 128 = 64 + l.val; omega))
  · rw [dif_neg h, lane_word, if_neg h]
    rfl

/-- Lane `l` of head `h` among the heads' lanes laid side by side. -/
def lane (h : Fin 4) (l : Fin 128) : Fin 512 := ⟨128 * h.val + l.val, by omega⟩

/-- Head `h`'s queries, its keys or values of tile `j`, and its part of a buffer with a leading head axis. -/
def slabQ (X : S1x512x512.Idx → EReal) (h : Fin 4) : S1x512x128.Idx → EReal := fun y => X (ix3 0 (y 1) (lane h (y 2)))
def slabK (X : S1x4096x512.Idx → EReal) (j : ℕ) (h : Fin 4) : S1x512x128.Idx → EReal := fun y => X (ix3 0 (key j (y 1)) (lane h (y 2)))
def slabS (X : S4x512x128.Idx → EReal) (h : Fin 4) : S1x512x128.Idx → EReal := fun y => X (ix3 h (y 1) (y 2))

theorem ld_slabQ (X : S1x512x512.Idx → Elt Ideal .bf16) (off : Fin 3 → ℕ) (inb : ∀ a, off a + S1x512x128.size a ≤ S1x512x512.size a) (h : Fin 4) (ho : off = ![0, 0, 128 * h.val]) :
    View.ld X (Rect.unit (s := S1x512x512) off S1x512x128.size inb) = slabQ X h := by
  subst ho
  exact funext fun y => View.ld_unit_apply_of X _ _ _ _ (ix3 0 (y 1) (lane h (y 2))) fun i => by
    have h0 : (y 0).val < 1 := (y 0).isLt
    fin_cases i <;> simp [ix3, lane] <;> omega

theorem ld_slabK (X : S1x4096x512.Idx → Elt Ideal .bf16) (off : Fin 3 → ℕ) (inb : ∀ a, off a + S1x512x128.size a ≤ S1x4096x512.size a) (j : ℕ) (hj : j < 8) (h : Fin 4) (ho : off = ![0, 512 * j, 128 * h.val]) :
    View.ld X (Rect.unit (s := S1x4096x512) off S1x512x128.size inb) = slabK X j h := by
  subst ho
  exact funext fun y => View.ld_unit_apply_of X _ _ _ _ (ix3 0 (key j (y 1)) (lane h (y 2))) fun i => by
    have h0 : (y 0).val < 1 := (y 0).isLt
    have h1 : (y 1).val < 512 := (y 1).isLt
    fin_cases i <;> simp [ix3, lane, key] <;> omega

theorem ld_slabS (X : S4x512x128.Idx → Elt Ideal .f32) (off : Fin 3 → ℕ) (inb : ∀ a, off a + S1x512x128.size a ≤ S4x512x128.size a) (h : Fin 4) (ho : off = ![h.val, 0, 0]) :
    View.ld X (Rect.unit (s := S4x512x128) off S1x512x128.size inb) = slabS X h := by
  subst ho
  exact funext fun y => View.ld_unit_apply_of X _ _ _ _ (ix3 h (y 1) (y 2)) fun i => by
    have h0 : (y 0).val < 1 := (y 0).isLt
    fin_cases i <;> simp [ix3] <;> omega

/-- The four heads' parts written over a buffer with a leading head axis. -/
def heads (P : Fin 4 → S1x512x128.Idx → Elt Ideal .f32) : List (View.Piece (Elt Ideal) S4x512x128 .f32) :=
  [⟨Rect.unit ![3, 0, 0] S1x512x128.size inb_S4x512x128_S1x512x128_3_0_0, P 3⟩, ⟨Rect.unit ![2, 0, 0] S1x512x128.size inb_S4x512x128_S1x512x128_2_0_0, P 2⟩,
    ⟨Rect.unit ![1, 0, 0] S1x512x128.size inb_S4x512x128_S1x512x128_1_0_0, P 1⟩, ⟨Rect.unit ![0, 0, 0] S1x512x128.size inb_S4x512x128_S1x512x128_0_0_0, P 0⟩]

variable {sig : RefSig} {κ' : Kind} {sp : Space}

theorem heads_read (v : View sig κ' sp S4x512x128 .f32) (f : v.ty.Contents (Elt Ideal)) (P : Fin 4 → S1x512x128.Idx → Elt Ideal .f32)
    (L : List (View.Piece (Elt Ideal) S4x512x128 .f32)) (h : Fin 4) (r : Fin 512) (l : Fin 128) :
    v.read (Elt Ideal) (v.writes (Elt Ideal) f (heads P ++ L)) (ix3 h r l) = P h (ix3 0 r l) := by
  have miss : ∀ (n : ℕ) (inb) (w) (L : List (View.Piece (Elt Ideal) S4x512x128 .f32)), h.val ≠ n →
      v.read (Elt Ideal) (v.writes (Elt Ideal) f ((⟨Rect.unit ![n, 0, 0] S1x512x128.size inb, w⟩ : View.Piece (Elt Ideal) S4x512x128 .f32) :: L)) (ix3 h r l)
        = v.read (Elt Ideal) (v.writes (Elt Ideal) f L) (ix3 h r l) := fun n inb w L hn =>
    View.read_writes_cons_unit_of_not_mem v f inb w L _ rfl 0 (by show h.val < n ∨ n + 1 ≤ h.val; omega)
  have hit : ∀ (n : ℕ) (inb) (w : S1x512x128.Idx → Elt Ideal .f32) (L : List (View.Piece (Elt Ideal) S4x512x128 .f32)), h.val = n →
      v.read (Elt Ideal) (v.writes (Elt Ideal) f ((⟨Rect.unit ![n, 0, 0] S1x512x128.size inb, w⟩ : View.Piece (Elt Ideal) S4x512x128 .f32) :: L)) (ix3 h r l)
        = w (ix3 0 r l) := fun n inb w L hn =>
    View.read_writes_cons_unit_of_mem v f inb w L _ (ix3 0 r l) rfl fun a => by fin_cases a <;> simp [ix3, hn]
  unfold heads
  simp only [List.cons_append, List.nil_append]
  match h with
  | 3 => exact hit 3 _ _ _ rfl
  | 2 => rw [miss 3 _ _ _ (by decide)]; exact hit 2 _ _ _ rfl
  | 1 => rw [miss 3 _ _ _ (by decide), miss 2 _ _ _ (by decide)]; exact hit 1 _ _ _ rfl
  | 0 => rw [miss 3 _ _ _ (by decide), miss 2 _ _ _ (by decide), miss 1 _ _ _ (by decide)]; exact hit 0 _ _ _ rfl

/-- One head's carried maxima and sums after tile `j`, its logits being `s`. -/
def newM (s : FVec Ideal S512x512 .f32) (M : S4x512x128.Idx → EReal) (h : Fin 4) : S1x512x128.Idx → Elt Ideal .f32 := k0_pay16 (F := Ideal) s (slabS M h)
def newA (s : FVec Ideal S512x512 .f32) (V : S1x4096x512.Idx → EReal) (j : ℕ) (M A : S4x512x128.Idx → EReal) (h : Fin 4) : S1x512x128.Idx → Elt Ideal .f32 :=
  k0_pay63 (F := Ideal) (k0_pay15 s (slabS M h)) (k0_pay17 s (slabS M h)) (slabS A h) (slabK V j h)

/-- Head `h`'s logits of row `r` against tile `j`, and the values of tile `j`. -/
def logits (Q : S1x512x512.Idx → EReal) (K : S1x4096x512.Idx → EReal) (h : Fin 4) (r : Fin 512) (j : ℕ) (c : Fin 512) : EReal :=
  ∑ l : Fin 128, Q (ix3 0 r (lane h l)) * K (ix3 0 (key j c) (lane h l))
def vals (V : S1x4096x512.Idx → EReal) (h : Fin 4) (j : ℕ) (c : Fin 512) (l : Fin 128) : EReal := V (ix3 0 (key j c) (lane h l))

/-- A loop that writes the four heads' parts tile by tile carries, in every head, row and lane, what the running softmax carries. -/
theorem loop_reads (v6 v7 : View sig κ' sp S4x512x128 .f32) (f6 : v6.ty.Contents (Elt Ideal)) (f7 : v7.ty.Contents (Elt Ideal))
    (Q : S1x512x512.Idx → EReal) (K V : S1x4096x512.Idx → EReal)
    (pb : ℕ → List (View.Piece (Elt Ideal) S4x512x128 .f32) × List (View.Piece (Elt Ideal) S4x512x128 .f32)) (n : ℕ) (h0 : pb 0 = ([], []))
    (hs : ∀ k < n, pb (k + 1)
      = (heads (fun h => newM (k0_pay3 (F := Ideal) (slabQ Q h) (slabK K k h)) (v6.read (Elt Ideal) (v6.writes (Elt Ideal) f6 (pb k).1)) h) ++ (pb k).1,
          heads (fun h => newA (k0_pay3 (F := Ideal) (slabQ Q h) (slabK K k h)) V k (v6.read (Elt Ideal) (v6.writes (Elt Ideal) f6 (pb k).1)) (v7.read (Elt Ideal) (v7.writes (Elt Ideal) f7 (pb k).2)) h) ++ (pb k).2))
    (e6 : ∀ h r l, v6.read (Elt Ideal) f6 (ix3 h r l) = (⊥ : EReal)) (e7 : ∀ h r l, v7.read (Elt Ideal) f7 (ix3 h r l) = (0 : EReal)) :
    ∀ k ≤ n, ∀ (h : Fin 4) (r : Fin 512) (l : Fin 128),
      v6.read (Elt Ideal) (v6.writes (Elt Ideal) f6 (pb k).1) (ix3 h r l) = (run (logits Q K h r) (vals V h) k).1
        ∧ v7.read (Elt Ideal) (v7.writes (Elt Ideal) f7 (pb k).2) (ix3 h r l) = (run (logits Q K h r) (vals V h) k).2 l := by
  intro k
  induction k with
  | zero => intro _ h r l; rw [h0]; exact ⟨e6 h r l, e7 h r l⟩
  | succ k ih =>
    intro hk h r l
    have ihk := ih (by omega) h r
    have hsc : (fun c => k0_pay3 (F := Ideal) (slabQ Q h) (slabK K k h) (ix2 r c)) = logits Q K h r k :=
      funext fun c => scores_at (slabQ Q h) (slabK K k h) r c
    rw [hs k (by omega)]
    refine ⟨(heads_read v6 f6 _ _ h r l).trans ?_, (heads_read v7 f7 _ _ h r l).trans ?_⟩
    · refine (max_at _ _ r l).trans ?_
      rw [hsc]
      exact congrArg _ (ihk l).1
    · refine (acc_at _ _ _ _ r l (run (logits Q K h r) (vals V h) k).1 fun l => (ihk l).1).trans ?_
      rw [hsc]
      exact congrArg (fun A => stepA _ _ A _ l) (funext fun l => (ihk l).2)

theorem run_congr (S S' : ℕ → Fin 512 → EReal) (V : ℕ → Fin 512 → Fin 128 → EReal) (n : ℕ) (h : ∀ j < n, S j = S' j) : run S V n = run S' V n := by
  induction n with
  | zero => rfl
  | succ n ih => rw [run, run, ih fun j hj => h j (by omega), h n (by omega)]

/-- The quotient of two lanes after the query tile's own keys, where the head's logits are real: the causal softmax average. -/
theorem head_out (Q : S1x512x512.Idx → EReal) (K V : S1x4096x512.Idx → EReal) (i : ℕ) (hi : i < 8) (h : Fin 4) (r : Fin 512) (M A : S4x512x128.Idx → EReal)
    (hM : ∀ l, M (ix3 h r l) = (run (logits Q K h r) (vals V h) i).1) (hA : ∀ l, A (ix3 h r l) = (run (logits Q K h r) (vals V h) i).2 l)
    (s : Fin 4096 → ℝ) (v : Fin 4096 → Fin 128 → EReal) (hs : ∀ k, ∑ l : Fin 128, Q (ix3 0 r (lane h l)) * K (ix3 0 k (lane h l)) = (s k : EReal))
    (hv : ∀ k l, V (ix3 0 k (lane h l)) = v k l) (h1 : ∀ k, v k 0 = 1) (l : Fin 128) :
    Ideal.div (newA (k0_pay68 (F := Ideal) (slabQ Q h) (slabK K i h)) V i M A h (ix3 0 r l)) (newA (k0_pay68 (F := Ideal) (slabQ Q h) (slabK K i h)) V i M A h (ix3 0 r 0))
      = soft (512 * i + r.val) (fun k => Real.log 2 * s k) (fun k => v k l) := by
  have e : ∀ l, newA (k0_pay68 (F := Ideal) (slabQ Q h) (slabK K i h)) V i M A h (ix3 0 r l)
      = (run (fun j c => if j = i then logits Q K h r i c + (if c ≤ r then 0 else ⊥) else logits Q K h r j c) (vals V h) (i + 1)).2 l := fun l => by
    refine (acc_at _ _ _ _ r l (run (logits Q K h r) (vals V h) i).1 fun l => hM l).trans ?_
    rw [run, run_congr _ (logits Q K h r) _ i fun j hj => funext fun c => if_neg hj.ne]
    refine congrArg₂ (fun S A => stepA S _ A _ l) (funext fun c => ?_) (funext hA)
    rw [if_pos rfl]
    exact diag_at (slabQ Q h) (slabK K i h) r c
  rw [e l, e 0]
  refine tiled i hi r s v l 0 h1 _ _ (fun j hj c => ?_) (fun c => ?_) fun j hj c l => hv _ _
  · rw [if_neg hj.ne]; exact hs _
  · rw [if_pos rfl]; exact congrArg (· + _) (hs _)

/-- A stored block, read at a column: the quotient of the column's lane by the first lane, in the column's head. -/
theorem block_at {sig : RefSig} {κ' : Kind} {sp : Space} (v : View sig κ' sp S1x512x256 .bf16) (f : v.ty.Contents (Elt Ideal)) (A : Fin 4 → S1x512x128.Idx → EReal)
    (b0 : ∀ a, (![0, 0, 0] : Fin 3 → ℕ) a + (![1, 512, 128] : Fin 3 → ℕ) a ≤ S1x512x256.size a) (b1 : ∀ a, (![0, 0, 128] : Fin 3 → ℕ) a + (![1, 512, 128] : Fin 3 → ℕ) a ≤ S1x512x256.size a)
    (r : Fin 512) (e : Fin 256) :
    v.read (Elt Ideal) (v.writes (Elt Ideal) f [⟨Rect.unit ![0, 0, 128] ![1, 512, 128] b1, k0_pay1 (k0_pay100 (F := Ideal) (A 2) (A 3))⟩, ⟨Rect.unit ![0, 0, 0] ![1, 512, 128] b0, k0_pay1 (k0_pay100 (F := Ideal) (A 0) (A 1))⟩]) (ix3 0 r e)
      = Ideal.div (A ⟨e.val / 64, by omega⟩ (ix3 0 r ⟨64 + e.val % 64, by omega⟩)) (A ⟨e.val / 64, by omega⟩ (ix3 0 r 0)) := by
  have he := e.isLt
  by_cases h : e.val < 128
  · refine (View.read_writes_cons_unit_of_not_mem v f b1 _ _ _ rfl 2 (Or.inl h)).trans ?_
    refine (View.read_writes_cons_unit_of_mem v f b0 _ _ _ (ix3 0 r ⟨e.val, h⟩) rfl fun a => by fin_cases a <;> simp [ix3]).trans ?_
    refine (pair_at _ _ r _).trans ?_
    by_cases h' : e.val < 64
    · rw [dif_pos h', show (⟨e.val / 64, by omega⟩ : Fin 4) = 0 from Fin.ext (by show e.val / 64 = 0; omega), show (⟨64 + e.val % 64, by omega⟩ : Fin 128) = ⟨64 + e.val, by omega⟩ from Fin.ext (by show 64 + e.val % 64 = 64 + e.val; omega)]
    · rw [dif_neg h', show (⟨e.val / 64, by omega⟩ : Fin 4) = 1 from Fin.ext (by show e.val / 64 = 1; omega), show (⟨64 + e.val % 64, by omega⟩ : Fin 128) = ⟨e.val, h⟩ from Fin.ext (by show 64 + e.val % 64 = e.val; omega)]
  · refine (View.read_writes_cons_unit_of_mem v f b1 _ _ _ (ix3 0 r ⟨e.val - 128, by omega⟩) rfl fun a => by fin_cases a <;> simp [ix3] <;> omega).trans ?_
    refine (pair_at _ _ r _).trans ?_
    by_cases h' : e.val - 128 < 64
    · rw [dif_pos h', show (⟨e.val / 64, by omega⟩ : Fin 4) = 2 from Fin.ext (by show e.val / 64 = 2; omega), show (⟨64 + e.val % 64, by omega⟩ : Fin 128) = ⟨64 + (e.val - 128), by omega⟩ from Fin.ext (by show 64 + e.val % 64 = 64 + (e.val - 128); omega)]
    · rw [dif_neg h', show (⟨e.val / 64, by omega⟩ : Fin 4) = 3 from Fin.ext (by show e.val / 64 = 3; omega), show (⟨64 + e.val % 64, by omega⟩ : Fin 128) = ⟨e.val - 128, by omega⟩ from Fin.ext (by show 64 + e.val % 64 = e.val - 128; omega)]

end Cert.Tile
-- ==== Proof.MlaRows.lean ====
/- The MLA attention's body: what a grid point stores is, head by head, the quotient of two lanes of the running softmax of its blocks. -/
module

public import proofs.«01_k».proof.Proof.Tile
public import proofs.«01_k».proof.Proof.Gen.KernelIdeal.Value
public import Idealize.ShloMosaic.Lib.Pipeline.ReadBack

@[expose] public section

set_option maxRecDepth 16384

noncomputable section

namespace Cert.KernelIdeal.Rows

open Idealize.ShloMosaic Idealize.ShloMosaic.TcCoe Idealize.SL.Sem
open Idealize.ShloMosaic.Pipeline (Dat)
open Cert.KernelIdeal Cert.KernelIdeal.Gen Cert.Tile Cert.Online

variable (c : Dev nD) (i : grid0.Coords) (arg2 : Memref sig .tc .vmem S1x512x512 .bf16) (harg2 : arg2.IsWhole) (arg3 : Memref sig .tc .vmem S1x4096x512 .bf16) (harg3 : arg3.IsWhole)
  (arg4 : Memref sig .tc .vmem S1x4096x512 .bf16) (harg4 : arg4.IsWhole) (arg5 : Memref sig .tc .vmem S1x512x256 .bf16) (harg5 : arg5.IsWhole)
  (arg6 : Memref sig .tc .vmem S4x512x128 .f32) (harg6 : arg6.IsWhole) (arg7 : Memref sig .tc .vmem S4x512x128 .f32) (harg7 : arg7.IsWhole)

theorem trips1 : ∀ i : grid0.Coords, (k0_t1_loop i).trips = (i 1).val := by decide +kernel
theorem trips2 : ∀ i : grid0.Coords, (k0_t2_loop i).trips = 0 := by decide +kernel
theorem off9 : ∀ i : grid0.Coords, k0_off9 i = ![0, 512 * (i 1).val, 0] := by decide +kernel
theorem off10 : ∀ i : grid0.Coords, k0_off10 i = ![0, 512 * (i 1).val, 128] := by decide +kernel
theorem off11 : ∀ i : grid0.Coords, k0_off11 i = ![0, 512 * (i 1).val, 256] := by decide +kernel
theorem off12 : ∀ i : grid0.Coords, k0_off12 i = ![0, 512 * (i 1).val, 384] := by decide +kernel

/-- What one trip of the loop over the full tiles writes. -/
theorem trip_eq (X2 : BufTy.Contents (Elt Ideal) arg2.view.ty) (X3 : BufTy.Contents (Elt Ideal) arg3.view.ty) (X4 : BufTy.Contents (Elt Ideal) arg4.view.ty) (k : Fin (k0_t1_loop i).trips)
    (f6 : BufTy.Contents (Elt Ideal) arg6.view.ty) (f7 : BufTy.Contents (Elt Ideal) arg7.view.ty) :
    tripL_k0_t1 (F := Ideal) Variants.none c none i arg2 harg2 arg3 harg3 arg4 harg4 arg5 harg5 arg6 harg6 arg7 harg7 X2 X3 X4 k f6 f7
      = (heads fun h => newM (Cert.KernelIdeal.Gen.k0_pay3 (F := Ideal) (slabQ (arg2.view.read (Elt Ideal) X2) h) (slabK (arg3.view.read (Elt Ideal) X3) k h)) (arg6.view.read (Elt Ideal) f6) h,
          heads fun h => newA (Cert.KernelIdeal.Gen.k0_pay3 (F := Ideal) (slabQ (arg2.view.read (Elt Ideal) X2) h) (slabK (arg3.view.read (Elt Ideal) X3) k h)) (arg4.view.read (Elt Ideal) X4) k
            (arg6.view.read (Elt Ideal) f6) (arg7.view.read (Elt Ideal) f7) h) := by
  have hk : k.val < 8 := by have := lt_of_lt_of_eq k.isLt (trips1 i); have := (i 1).isLt; exact lt_trans (by assumption) this
  unfold tripL_k0_t1 trip_k0_t1
  dsimp only
  unfold heads newM newA
  simp only [← ld_slabQ (arg2.view.read (Elt Ideal) X2) ![0, 0, 0] inb_S1x512x512_S1x512x128_0_0_0 0 rfl, ← ld_slabQ (arg2.view.read (Elt Ideal) X2) ![0, 0, 128] inb_S1x512x512_S1x512x128_0_0_128 1 rfl,
    ← ld_slabQ (arg2.view.read (Elt Ideal) X2) ![0, 0, 256] inb_S1x512x512_S1x512x128_0_0_256 2 rfl, ← ld_slabQ (arg2.view.read (Elt Ideal) X2) ![0, 0, 384] inb_S1x512x512_S1x512x128_0_0_384 3 rfl,
    ← ld_slabK (arg3.view.read (Elt Ideal) X3) (k0_off1 i k) (k0_off1_inb i k) k hk 0 (k0_off1_eq i k), ← ld_slabK (arg3.view.read (Elt Ideal) X3) (k0_off2 i k) (k0_off2_inb i k) k hk 1 (k0_off2_eq i k),
    ← ld_slabK (arg3.view.read (Elt Ideal) X3) (k0_off3 i k) (k0_off3_inb i k) k hk 2 (k0_off3_eq i k), ← ld_slabK (arg3.view.read (Elt Ideal) X3) (k0_off4 i k) (k0_off4_inb i k) k hk 3 (k0_off4_eq i k),
    ← ld_slabK (arg4.view.read (Elt Ideal) X4) (k0_off1 i k) (k0_off1_inb i k) k hk 0 (k0_off1_eq i k), ← ld_slabK (arg4.view.read (Elt Ideal) X4) (k0_off2 i k) (k0_off2_inb i k) k hk 1 (k0_off2_eq i k),
    ← ld_slabK (arg4.view.read (Elt Ideal) X4) (k0_off3 i k) (k0_off3_inb i k) k hk 2 (k0_off3_eq i k), ← ld_slabK (arg4.view.read (Elt Ideal) X4) (k0_off4 i k) (k0_off4_inb i k) k hk 3 (k0_off4_eq i k),
    ← ld_slabS (arg6.view.read (Elt Ideal) f6) ![0, 0, 0] inb_S4x512x128_S1x512x128_0_0_0 0 rfl, ← ld_slabS (arg6.view.read (Elt Ideal) f6) ![1, 0, 0] inb_S4x512x128_S1x512x128_1_0_0 1 rfl,
    ← ld_slabS (arg6.view.read (Elt Ideal) f6) ![2, 0, 0] inb_S4x512x128_S1x512x128_2_0_0 2 rfl, ← ld_slabS (arg6.view.read (Elt Ideal) f6) ![3, 0, 0] inb_S4x512x128_S1x512x128_3_0_0 3 rfl,
    ← ld_slabS (arg7.view.read (Elt Ideal) f7) ![0, 0, 0] inb_S4x512x128_S1x512x128_0_0_0 0 rfl, ← ld_slabS (arg7.view.read (Elt Ideal) f7) ![1, 0, 0] inb_S4x512x128_S1x512x128_1_0_0 1 rfl,
    ← ld_slabS (arg7.view.read (Elt Ideal) f7) ![2, 0, 0] inb_S4x512x128_S1x512x128_2_0_0 2 rfl, ← ld_slabS (arg7.view.read (Elt Ideal) f7) ![3, 0, 0] inb_S4x512x128_S1x512x128_3_0_0 3 rfl]
  rfl

variable (x0 : Vec Ideal S1x512x512 .bf16) (x1 x2 : Vec Ideal S1x4096x512 .bf16)

/-- The blocks as the body's loads find them, and what the full tiles leave in the two buffers. -/
def Q : S1x512x512.Idx → EReal := arg2.view.read (Elt Ideal) (harg2.unread x0)
def K : S1x4096x512.Idx → EReal := arg3.view.read (Elt Ideal) (harg3.unread x1)
def W : S1x4096x512.Idx → EReal := arg4.view.read (Elt Ideal) (harg4.unread x2)

/-- The pieces the loop over the full tiles writes. -/
def tiles1 : List (View.Piece (Elt Ideal) S4x512x128 .f32) × List (View.Piece (Elt Ideal) S4x512x128 .f32) :=
  pb_k0_t1 (F := Ideal) Variants.none c none i arg2 harg2 arg3 harg3 arg4 harg4 arg5 harg5 arg6 harg6 arg7 harg7 (harg2.unread x0) (harg3.unread x1) (harg4.unread x2)
    (arg6.view.writes (Elt Ideal) arg6.view.junk kernelRun0_A.sl.HS0_1) (arg7.view.writes (Elt Ideal) arg7.view.junk kernelRun0_A.sl.HS1_1) (Scf.trips (k0_t1_loop i).lb (k0_t1_loop i).ub (k0_t1_loop i).st)

/-- The pieces of the loop that never runs. -/
def tiles2 : List (View.Piece (Elt Ideal) S4x512x128 .f32) × List (View.Piece (Elt Ideal) S4x512x128 .f32) :=
  pb_k0_t2 (F := Ideal) Variants.none c none i arg2 harg2 arg3 harg3 arg4 harg4 arg5 harg5 arg6 harg6 arg7 harg7 (kernelRun0_A.sl.v15 i) (harg2.unread x0) (harg3.unread x1) (harg4.unread x2)
    (arg6.view.writes (Elt Ideal) arg6.view.junk ((tiles1 c i arg2 harg2 arg3 harg3 arg4 harg4 arg5 harg5 arg6 harg6 arg7 harg7 x0 x1 x2).1 ++ kernelRun0_A.sl.HS0_1))
    (arg7.view.writes (Elt Ideal) arg7.view.junk ((tiles1 c i arg2 harg2 arg3 harg3 arg4 harg4 arg5 harg5 arg6 harg6 arg7 harg7 x0 x1 x2).2 ++ kernelRun0_A.sl.HS1_1))
    (Scf.trips (k0_t2_loop i).lb (k0_t2_loop i).ub (k0_t2_loop i).st)

def M6 : S4x512x128.Idx → EReal := arg6.view.read (Elt Ideal) (arg6.view.writes (Elt Ideal) arg6.view.junk
  ((tiles2 c i arg2 harg2 arg3 harg3 arg4 harg4 arg5 harg5 arg6 harg6 arg7 harg7 x0 x1 x2).1 ++ ((tiles1 c i arg2 harg2 arg3 harg3 arg4 harg4 arg5 harg5 arg6 harg6 arg7 harg7 x0 x1 x2).1 ++ kernelRun0_A.sl.HS0_1)))
def M7 : S4x512x128.Idx → EReal := arg7.view.read (Elt Ideal) (arg7.view.writes (Elt Ideal) arg7.view.junk
  ((tiles2 c i arg2 harg2 arg3 harg3 arg4 harg4 arg5 harg5 arg6 harg6 arg7 harg7 x0 x1 x2).2 ++ ((tiles1 c i arg2 harg2 arg3 harg3 arg4 harg4 arg5 harg5 arg6 harg6 arg7 harg7 x0 x1 x2).2 ++ kernelRun0_A.sl.HS1_1)))

theorem tiles2_nil : tiles2 c i arg2 harg2 arg3 harg3 arg4 harg4 arg5 harg5 arg6 harg6 arg7 harg7 x0 x1 x2 = ([], []) := by
  unfold tiles2
  rw [show Scf.trips (k0_t2_loop i).lb (k0_t2_loop i).ub (k0_t2_loop i).st = 0 from trips2 i]
  rfl

theorem fill6 (h : Fin 4) (r : Fin 512) (l : Fin 128) : arg6.view.read (Elt Ideal) (arg6.view.writes (Elt Ideal) arg6.view.junk (kernelRun0_A.sl.HS0_1 (F := Ideal))) (ix3 h r l) = (⊥ : EReal) := by
  unfold kernelRun0_A.sl.HS0_1
  refine (View.read_writes_cons_unit_of_mem arg6.view _ _ _ _ _ (ix3 h r l) rfl fun a => by fin_cases a <;> simp [ix3]).trans ?_
  pointwise [k0_pay59]
  rfl

theorem fill7 (h : Fin 4) (r : Fin 512) (l : Fin 128) : arg7.view.read (Elt Ideal) (arg7.view.writes (Elt Ideal) arg7.view.junk (kernelRun0_A.sl.HS1_1 (F := Ideal))) (ix3 h r l) = (0 : EReal) := by
  unfold kernelRun0_A.sl.HS1_1
  refine (View.read_writes_cons_unit_of_mem arg7.view _ _ _ _ _ (ix3 h r l) rfl fun a => by fin_cases a <;> simp [ix3]).trans ?_
  pointwise [k0_pay60]

/-- What the full tiles leave: the running softmax of every head and row. -/
theorem left_at (h : Fin 4) (r : Fin 512) (l : Fin 128) :
    M6 c i arg2 harg2 arg3 harg3 arg4 harg4 arg5 harg5 arg6 harg6 arg7 harg7 x0 x1 x2 (ix3 h r l) = (run (logits (Q arg2 harg2 x0) (K arg3 harg3 x1) h r) (vals (W arg4 harg4 x2) h) (i 1).val).1
      ∧ M7 c i arg2 harg2 arg3 harg3 arg4 harg4 arg5 harg5 arg6 harg6 arg7 harg7 x0 x1 x2 (ix3 h r l) = (run (logits (Q arg2 harg2 x0) (K arg3 harg3 x1) h r) (vals (W arg4 harg4 x2) h) (i 1).val).2 l := by
  unfold M6 M7
  rw [tiles2_nil, List.nil_append, List.nil_append, View.writes_append, View.writes_append, ← trips1 i]
  exact loop_reads arg6.view arg7.view _ _ (Q arg2 harg2 x0) (K arg3 harg3 x1) (W arg4 harg4 x2)
    (pb_k0_t1 (F := Ideal) Variants.none c none i arg2 harg2 arg3 harg3 arg4 harg4 arg5 harg5 arg6 harg6 arg7 harg7 (harg2.unread x0) (harg3.unread x1) (harg4.unread x2)
      (arg6.view.writes (Elt Ideal) arg6.view.junk kernelRun0_A.sl.HS0_1) (arg7.view.writes (Elt Ideal) arg7.view.junk kernelRun0_A.sl.HS1_1))
    (k0_t1_loop i).trips rfl (fun k hk => by
      refine (pb_k0_t1_succ (F := Ideal) Variants.none c none i arg2 harg2 arg3 harg3 arg4 harg4 arg5 harg5 arg6 harg6 arg7 harg7 _ _ _ _ _ ⟨k, hk⟩).trans ?_
      rw [trip_eq]
      rfl) (fill6 arg6) (fill7 arg7) _ le_rfl h r l

theorem v51_eq : kernelRun0_A.sl.v51 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 0 := by
  unfold kernelRun0_A.sl.v51
  exact ld_slabS (M6 c i arg2 harg2 arg3 harg3 arg4 harg4 arg5 harg5 arg6 harg6 arg7 harg7 x0 x1 x2) ![0, 0, 0] inb_S4x512x128_S1x512x128_0_0_0 0 rfl

theorem v66_eq : kernelRun0_A.sl.v66 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 1 := by
  unfold kernelRun0_A.sl.v66 kernelRun0_A.sl.HS0_1_1
  refine (View.readCov_skip arg6.view _ _ _ _ (by decide)).trans ?_
  exact ld_slabS (M6 c i arg2 harg2 arg3 harg3 arg4 harg4 arg5 harg5 arg6 harg6 arg7 harg7 x0 x1 x2) ![1, 0, 0] inb_S4x512x128_S1x512x128_1_0_0 1 rfl

theorem v81_eq : kernelRun0_A.sl.v81 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 2 := by
  unfold kernelRun0_A.sl.v81 kernelRun0_A.sl.HS0_2 kernelRun0_A.sl.HS0_1_1
  refine ((View.readCov_skip arg6.view _ _ _ _ (by decide)).trans (View.readCov_skip arg6.view _ _ _ _ (by decide))).trans ?_
  exact ld_slabS (M6 c i arg2 harg2 arg3 harg3 arg4 harg4 arg5 harg5 arg6 harg6 arg7 harg7 x0 x1 x2) ![2, 0, 0] inb_S4x512x128_S1x512x128_2_0_0 2 rfl

theorem v96_eq : kernelRun0_A.sl.v96 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 3 := by
  unfold kernelRun0_A.sl.v96 kernelRun0_A.sl.HS0_3 kernelRun0_A.sl.HS0_2 kernelRun0_A.sl.HS0_1_1
  refine ((View.readCov_skip arg6.view _ _ _ _ (by decide)).trans ((View.readCov_skip arg6.view _ _ _ _ (by decide)).trans (View.readCov_skip arg6.view _ _ _ _ (by decide)))).trans ?_
  exact ld_slabS (M6 c i arg2 harg2 arg3 harg3 arg4 harg4 arg5 harg5 arg6 harg6 arg7 harg7 x0 x1 x2) ![3, 0, 0] inb_S4x512x128_S1x512x128_3_0_0 3 rfl

theorem v111_eq : kernelRun0_A.sl.v111 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 0 := by
  unfold kernelRun0_A.sl.v111
  exact ld_slabS (M7 c i arg2 harg2 arg3 harg3 arg4 harg4 arg5 harg5 arg6 harg6 arg7 harg7 x0 x1 x2) ![0, 0, 0] inb_S4x512x128_S1x512x128_0_0_0 0 rfl

theorem v122_eq : kernelRun0_A.sl.v122 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 1 := by
  unfold kernelRun0_A.sl.v122 kernelRun0_A.sl.HS1_1_1
  refine (View.readCov_skip arg7.view _ _ _ _ (by decide)).trans ?_
  exact ld_slabS (M7 c i arg2 harg2 arg3 harg3 arg4 harg4 arg5 harg5 arg6 harg6 arg7 harg7 x0 x1 x2) ![1, 0, 0] inb_S4x512x128_S1x512x128_1_0_0 1 rfl

theorem v133_eq : kernelRun0_A.sl.v133 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 2 := by
  unfold kernelRun0_A.sl.v133 kernelRun0_A.sl.HS1_2 kernelRun0_A.sl.HS1_1_1
  refine ((View.readCov_skip arg7.view _ _ _ _ (by decide)).trans (View.readCov_skip arg7.view _ _ _ _ (by decide))).trans ?_
  exact ld_slabS (M7 c i arg2 harg2 arg3 harg3 arg4 harg4 arg5 harg5 arg6 harg6 arg7 harg7 x0 x1 x2) ![2, 0, 0] inb_S4x512x128_S1x512x128_2_0_0 2 rfl

theorem v144_eq : kernelRun0_A.sl.v144 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 3 := by
  unfold kernelRun0_A.sl.v144 kernelRun0_A.sl.HS1_3 kernelRun0_A.sl.HS1_2 kernelRun0_A.sl.HS1_1_1
  refine ((View.readCov_skip arg7.view _ _ _ _ (by decide)).trans ((View.readCov_skip arg7.view _ _ _ _ (by decide)).trans (View.readCov_skip arg7.view _ _ _ _ (by decide)))).trans ?_
  exact ld_slabS (M7 c i arg2 harg2 arg3 harg3 arg4 harg4 arg5 harg5 arg6 harg6 arg7 harg7 x0 x1 x2) ![3, 0, 0] inb_S4x512x128_S1x512x128_3_0_0 3 rfl

/-- One head's scaled sums after its own tile. -/
def last (h : Fin 4) : S1x512x128.Idx → Elt Ideal .f32 :=
  newA (Cert.KernelIdeal.Gen.k0_pay68 (F := Ideal) (slabQ (Q arg2 harg2 x0) h) (slabK (K arg3 harg3 x1) (i 1).val h)) (W arg4 harg4 x2) (i 1).val (M6 c i arg2 harg2 arg3 harg3 arg4 harg4 arg5 harg5 arg6 harg6 arg7 harg7 x0 x1 x2) (M7 c i arg2 harg2 arg3 harg3 arg4 harg4 arg5 harg5 arg6 harg6 arg7 harg7 x0 x1 x2) h

theorem lt8 : (i 1).val < 8 := (i 1).isLt

theorem v158_eq : kernelRun0_A.sl.v158 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 0 := by
  unfold kernelRun0_A.sl.v158 kernelRun0_A.sl.HS1_4 kernelRun0_A.sl.HS1_3 kernelRun0_A.sl.HS1_2 kernelRun0_A.sl.HS1_1_1
  refine ((View.readCov_skip arg7.view _ _ _ _ (by decide)).trans ((View.readCov_skip arg7.view _ _ _ _ (by decide)).trans ((View.readCov_skip arg7.view _ _ _ _ (by decide)).trans (View.readCov_cons_toLoadRect arg7.view _ _ _)))).trans ?_
  unfold last newA
  rw [← v51_eq, ← v111_eq, ← ld_slabQ (Q arg2 harg2 x0) ![0, 0, 0] inb_S1x512x512_S1x512x128_0_0_0 0 rfl, ← ld_slabK (K arg3 harg3 x1) (k0_off9 i) (k0_off9_inb i) _ (lt8 i) 0 (off9 i),
    ← ld_slabK (W arg4 harg4 x2) (k0_off9 i) (k0_off9_inb i) _ (lt8 i) 0 (off9 i)]
  rfl

theorem v163_eq : kernelRun0_A.sl.v163 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 1 := by
  unfold kernelRun0_A.sl.v163 kernelRun0_A.sl.HS1_4 kernelRun0_A.sl.HS1_3 kernelRun0_A.sl.HS1_2
  refine ((View.readCov_skip arg7.view _ _ _ _ (by decide)).trans ((View.readCov_skip arg7.view _ _ _ _ (by decide)).trans (View.readCov_cons_toLoadRect arg7.view _ _ _))).trans ?_
  unfold last newA
  rw [← v66_eq, ← v122_eq, ← ld_slabQ (Q arg2 harg2 x0) ![0, 0, 128] inb_S1x512x512_S1x512x128_0_0_128 1 rfl, ← ld_slabK (K arg3 harg3 x1) (k0_off10 i) (k0_off10_inb i) _ (lt8 i) 1 (off10 i),
    ← ld_slabK (W arg4 harg4 x2) (k0_off10 i) (k0_off10_inb i) _ (lt8 i) 1 (off10 i)]
  rfl

theorem v174_eq : kernelRun0_A.sl.v174 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 2 := by
  unfold kernelRun0_A.sl.v174 kernelRun0_A.sl.HS1_4 kernelRun0_A.sl.HS1_3
  refine ((View.readCov_skip arg7.view _ _ _ _ (by decide)).trans (View.readCov_cons_toLoadRect arg7.view _ _ _)).trans ?_
  unfold last newA
  rw [← v81_eq, ← v133_eq, ← ld_slabQ (Q arg2 harg2 x0) ![0, 0, 256] inb_S1x512x512_S1x512x128_0_0_256 2 rfl, ← ld_slabK (K arg3 harg3 x1) (k0_off11 i) (k0_off11_inb i) _ (lt8 i) 2 (off11 i),
    ← ld_slabK (W arg4 harg4 x2) (k0_off11 i) (k0_off11_inb i) _ (lt8 i) 2 (off11 i)]
  rfl

theorem v179_eq : kernelRun0_A.sl.v179 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 3 := by
  unfold kernelRun0_A.sl.v179 kernelRun0_A.sl.HS1_4
  refine (View.readCov_cons_toLoadRect arg7.view _ _ _).trans ?_
  unfold last newA
  rw [← v96_eq, ← v144_eq, ← ld_slabQ (Q arg2 harg2 x0) ![0, 0, 384] inb_S1x512x512_S1x512x128_0_0_384 3 rfl, ← ld_slabK (K arg3 harg3 x1) (k0_off12 i) (k0_off12_inb i) _ (lt8 i) 3 (off12 i),
    ← ld_slabK (W arg4 harg4 x2) (k0_off12 i) (k0_off12_inb i) _ (lt8 i) 3 (off12 i)]
  rfl

/-- A stored column, where the column's head has real logits: the causal softmax average of the head's values. -/
theorem out_soft (r : Fin 512) (e : Fin 256) (s : Fin 4096 → ℝ) (v : Fin 4096 → Fin 128 → EReal)
    (hs : ∀ k, ∑ l : Fin 128, x0 (ix3 0 r (lane ⟨e.val / 64, by omega⟩ l)) * x1 (ix3 0 k (lane ⟨e.val / 64, by omega⟩ l)) = (s k : EReal))
    (hv : ∀ k l, x2 (ix3 0 k (lane ⟨e.val / 64, by omega⟩ l)) = v k l) (h1 : ∀ k, v k 0 = 1) :
    out0_A_3 (F := Ideal) c i arg2 harg2 arg3 harg3 arg4 harg4 arg5 harg5 arg6 harg6 arg7 harg7 x0 x1 x2 (ix3 0 r e) = soft (512 * (i 1).val + r.val) (fun k => Real.log 2 * s k) (fun k => v k ⟨64 + e.val % 64, by omega⟩) := by
  have e0 : Q arg2 harg2 x0 = x0 := harg2.read_unread x0
  have e1 : K arg3 harg3 x1 = x1 := harg3.read_unread x1
  have e2 : W arg4 harg4 x2 = x2 := harg4.read_unread x2
  unfold out0_A_3 kernelRun0_A
  dsimp only
  unfold kernelRun0_A.sl.r_17
  rw [v158_eq, v163_eq, v174_eq, v179_eq]
  refine (block_at VO0_3 VO0_3.junk (last c i arg2 harg2 arg3 harg3 arg4 harg4 arg5 harg5 arg6 harg6 arg7 harg7 x0 x1 x2) _ _ r e).trans ?_
  have hl := left_at c i arg2 harg2 arg3 harg3 arg4 harg4 arg5 harg5 arg6 harg6 arg7 harg7 x0 x1 x2 ⟨e.val / 64, by omega⟩ r
  unfold last
  rw [e0, e1, e2] at *
  exact head_out x0 x1 x2 (i 1).val (lt8 i) _ r _ _ (fun l => (hl l).1) (fun l => (hl l).2) s v hs hv h1 _

end Cert.KernelIdeal.Rows
-- ==== Proof.Causal.lean ====
/- The references' causal softmax, over any array of logits: each output is the weighted mean of the values at the keys up to the query. -/
module

public import proofs.«01_k».proof.Proof.Online
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.Causal

open Idealize.ShloMosaic Idealize.ShloMosaic.TcCoe Idealize.SL.Sem
open Cert.ReferenceIdeal Cert.ReferenceIdeal.Gen Cert.ReferenceIdeal.Read Cert.Online

variable (X : FVec Ideal S16x4x4096x4096 .f32) (Y : FVec Ideal S16x4096x4x64 .f32)

/-- The logits with later keys at minus infinity. -/
def hide : FVec Ideal S16x4x4096x4096 .f32 := select (val_main_call0_v1 (F := Ideal)) X (val_main_call0_v2 (F := Ideal))

/-- Each query's largest logit. -/
def top : FVec Ideal S16x4x4096 .f32 :=
  Host.reduce (FloatOps.maximumf (F := Ideal) (φ := .f32)) (hide X) (val_main_cst_1 (F := Ideal)) reducesTo_S16x4x4096x4096_S16x4x4096_d3 h_S_

/-- The unscaled weights. -/
def weight : FVec Ideal S16x4x4096x4096 .f32 :=
  select (val_main_call1_v1 (F := Ideal))
    (Host.exp (subf (hide X) (broadcastInDim S16x4x4096x4096 ![0, 1, 2, 3] bcast_S16x4x4096x1_S16x4x4096x4096_0_1_2_3
      (broadcastInDim S16x4x4096x1 ![0, 1, 2] bcast_S16x4x4096_S16x4x4096x1_0_1_2 (top X)))))
    (val_main_call1_v2 (F := Ideal))

/-- Each query's sum of weights. -/
def total : FVec Ideal S16x4x4096 .f32 :=
  Host.reduceAdd (F := Ideal) (φ := .f32) (weight X) (val_main_cst_3 (F := Ideal)) reducesTo_S16x4x4096x4096_S16x4x4096_d3 h_S_

/-- The attention's result. -/
def result : FVec Ideal S16x4096x256 .bf16 :=
  truncf .bf16 (shapeCast _ (transpose S16x4096x4x64 [0, 3, 1, 2]
    (Host.dotGeneral (F := Ideal) (φ₁ := .f32) (φ₂ := .f32) dot_S16x4096x4x64_S16x4x4096x4096_S16x4x64x4096_1_3_3_2_02_01 none Y
      (Host.divf (weight X) (broadcastInDim S16x4x4096x4096 ![0, 1, 2, 3] bcast_S16x4x4096x1_S16x4x4096x4096_0_1_2_3
        (maximumf (broadcastInDim S16x4x4096x1 ![0, 1, 2] bcast_S16x4x4096_S16x4x4096x1_0_1_2 (total X)) (val_main_v22 (F := Ideal))))))
    transposes_S16x4x64x4096_S16x4096x4x64_0_3_1_2) shapeCasts_S16x4096x4x64_S16x4096x256) bitsLt_bf16_f32

variable (b : Fin 16) (h : Fin 4) (q k : Fin 4096)

theorem keep_at : val_main_v12 (F := Ideal) (ix2 q k) = if k.val ≤ q.val then 1#1 else 0#1 := by
  pointwise [val_main_v12, val_main_v11, val_main_v10, val_main_v9, val_main_v8, val_main_v7]
  have hq := q.isLt
  have hk := k.isLt
  show BitVec.ofBool ((BitVec.ofNat 32 k.val).sle (BitVec.ofNat 32 q.val)) = _
  rw [BitVec.sle_eq_decide, BitVec.toInt_ofNat', BitVec.toInt_ofNat',
    Int.bmod_eq_of_le (n := (k.val : ℤ)) (by omega) (by omega), Int.bmod_eq_of_le (n := (q.val : ℤ)) (by omega) (by omega)]
  by_cases h : k.val ≤ q.val
  · rw [if_pos h, decide_eq_true (by omega)]; rfl
  · rw [if_neg h, decide_eq_false (by omega)]; rfl

theorem low_bot : Ideal.ofBits .f32 0xFF800000#32 = ⊥ := by
  simp [Ideal.ofBits, Ideal.ieee]

/-- A choice by the causal mask. -/
theorem choose_at (u v : EReal) : Scalar.select (val_main_v12 (F := Ideal) (ix2 q k)) u v = if k.val ≤ q.val then u else v := by
  rw [keep_at]
  by_cases h : k.val ≤ q.val
  · rw [if_pos h, if_pos h]; rfl
  · rw [if_neg h, if_neg h]; rfl

theorem hide_at : hide X (ix4 b h q k) = if k.val ≤ q.val then X (ix4 b h q k) else ⊥ := by
  pointwise [hide, val_main_call0_v1, val_main_call0_v2, val_main_call0_v0, val_main_cst_0]
  rw [choose_at]
  exact congrArg (fun z => if k.val ≤ q.val then X (ix4 b h q k) else z) low_bot

theorem top_at : top X (ix3 b h q) = Finset.univ.fold max ⊥ fun k : Fin 4096 => hide X (ix4 b h q k) := by
  pointwise [top, val_main_cst_1]
  rw [low_bot]

theorem weight_at : weight X (ix4 b h q k) = if k.val ≤ q.val then Ideal.exp (hide X (ix4 b h q k) - top X (ix3 b h q)) else 0 := by
  pointwise [weight, val_main_call1_v1, val_main_call1_v2, val_main_call1_v0, val_main_cst_2]
  rw [choose_at]
  exact congrArg (fun z => if k.val ≤ q.val then Ideal.exp (hide X (ix4 b h q k) - top X (ix3 b h q)) else z) (by simp [Ideal.ofBits, Ideal.ieee, constant])

theorem total_at : total X (ix3 b h q) = ∑ k : Fin 4096, weight X (ix4 b h q k) := by
  pointwise [total, val_main_cst_3]

theorem result_at (e : Fin 256) : result X Y (ix3 b q e)
    = ∑ k : Fin 4096, Y (ix4 b k ⟨e.val / 64, by have := e.isLt; omega⟩ ⟨e.val % 64, Nat.mod_lt _ (by decide)⟩)
      * Ideal.div (weight X (ix4 b ⟨e.val / 64, by have := e.isLt; omega⟩ q k)) (max (total X (ix3 b ⟨e.val / 64, by have := e.isLt; omega⟩ q)) (Ideal.ofBits .f32 0x0DA24260#32)) := by
  pointwise [result, val_main_v22, val_main_cst_4]

/-- The floor under the sum of weights is a real of at most one. -/
theorem floor_real : ∃ z : ℝ, z ≤ 1 ∧ Ideal.ofBits .f32 0x0DA24260#32 = (z : EReal) := by
  refine ⟨10633824 * ((2 : ℝ) ^ 123)⁻¹, by norm_num, ?_⟩
  simp [Ideal.ofBits, Ideal.ieee]

/-- One head's sum over real logits. -/
theorem head_soft (d : Fin 64) (L : Fin 4096 → ℝ) (V : Fin 4096 → EReal) (hX : ∀ k, X (ix4 b h q k) = (L k : EReal)) (hY : ∀ k, Y (ix4 b k h d) = V k) :
    ∑ k : Fin 4096, Y (ix4 b k h d) * Ideal.div (weight X (ix4 b h q k)) (max (total X (ix3 b h q)) (Ideal.ofBits .f32 0x0DA24260#32))
      = soft q.val L V := by
  obtain ⟨z, hz, hf⟩ := floor_real
  have h1 : top X (ix3 b h q) = Finset.univ.fold max ⊥ fun k => if k.val ≤ q.val then (L k : EReal) else ⊥ := by
    rw [top_at]
    simp only [hide_at, hX]
  have h2 : ∀ k, weight X (ix4 b h q k) = if k.val ≤ q.val then Ideal.exp ((L k : EReal) - top X (ix3 b h q)) else 0 := by
    intro k
    rw [weight_at, hide_at, hX]
    by_cases h : k.val ≤ q.val
    · rw [if_pos h, if_pos h, if_pos h]
    · rw [if_neg h, if_neg h]
  rw [← masked q.val q.isLt L V z hz (top X (ix3 b h q)) (total X (ix3 b h q)) (fun k => weight X (ix4 b h q k)) h1 h2 (total_at X b h q), hf]
  exact Finset.sum_congr rfl fun k _ => by rw [hY k, mul_comm]

/-- Over real logits the result is the softmax's weighted mean. -/
theorem result_soft (e : Fin 256) (L : Fin 4096 → ℝ) (V : Fin 4096 → EReal)
    (hX : ∀ k, X (ix4 b ⟨e.val / 64, by have := e.isLt; omega⟩ q k) = (L k : EReal))
    (hY : ∀ k, Y (ix4 b k ⟨e.val / 64, by have := e.isLt; omega⟩ ⟨e.val % 64, Nat.mod_lt _ (by decide)⟩) = V k) :
    result X Y (ix3 b q e) = soft q.val L V :=
  (result_at X Y b q e).trans (head_soft X Y b _ q _ L V hX hY)

end Cert.Causal

end
-- ==== Proof.Lanes.lean ====
/- The lanes the host lays out for the attention calls: 64 lanes of a head's own vector, 32 more, and 32 last ones; and the numbers the host computes. -/
module

public import proofs.«01_k».proof.Proof.Tile

@[expose] public section

set_option maxRecDepth 16384

noncomputable section

namespace Cert.Lanes

open Idealize.ShloMosaic Idealize.ShloMosaic.TcCoe Idealize.SL.Sem
open Cert.KernelIdeal Cert.KernelIdeal.Gen Cert.Tile Cert.Online

/-- A head's 128 lanes from its three parts. -/
def lanes (a : Fin 64 → ℝ) (b c : Fin 32 → ℝ) (l : Fin 128) : ℝ :=
  if h1 : l.val < 64 then a ⟨l.val, h1⟩ else if h2 : l.val < 96 then b ⟨l.val - 64, by omega⟩ else c ⟨l.val - 96, by have := l.isLt; omega⟩

theorem sum_parts (f : Fin 128 → ℝ) :
    ∑ l, f l = ∑ d : Fin 64, f ⟨d.val, by omega⟩ + (∑ d : Fin 32, f ⟨64 + d.val, by omega⟩ + ∑ d : Fin 32, f ⟨96 + d.val, by omega⟩) := by
  refine (Fin.sum_univ_add (a := 64) (b := 64) f).trans (congrArg₂ (· + ·) rfl ?_)
  refine (Fin.sum_univ_add (a := 32) (b := 32) fun d => f (Fin.natAdd 64 d)).trans (congrArg₂ (· + ·) rfl ?_)
  exact Finset.sum_congr rfl fun d _ => congrArg f (Fin.ext (by simp [Fin.natAdd]; omega))

/-- The product of two such rows, part by part. -/
theorem dot_lanes (a a' : Fin 64 → ℝ) (b b' c c' : Fin 32 → ℝ) :
    ∑ l, (lanes a b c l : EReal) * (lanes a' b' c' l : EReal) = ((∑ d, a d * a' d + (∑ d, b d * b' d + ∑ d, c d * c' d) : ℝ) : EReal) := by
  have e : ∑ l, lanes a b c l * lanes a' b' c' l = ∑ d, a d * a' d + (∑ d, b d * b' d + ∑ d, c d * c' d) := by
    rw [sum_parts]
    refine congrArg₂ (· + ·) (Finset.sum_congr rfl fun d _ => ?_) (congrArg₂ (· + ·) (Finset.sum_congr rfl fun d _ => ?_) (Finset.sum_congr rfl fun d _ => ?_))
    · have := d.isLt
      simp [lanes, this]
    · have := d.isLt
      simp [lanes, show 64 + d.val < 96 by omega]
    · have := d.isLt
      simp [lanes, show ¬ 96 + d.val < 64 by omega]
  rw [← e, coe_sum]
  exact Finset.sum_congr rfl fun l _ => (EReal.coe_mul _ _).symm

/-- The heads' lanes side by side. -/
def flat (x : FVec Ideal S16x4096x4x128 .f32) : FVec Ideal S16x4096x512 .bf16 := truncf .bf16 (shapeCast S16x4096x512 x shapeCasts_S16x4096x4x128_S16x4096x512) bitsLt_bf16_f32

theorem flat_at (x : FVec Ideal S16x4096x4x128 .f32) (b : Fin 16) (j : Fin 4096) (h : Fin 4) (l : Fin 128) : flat x (ix3 b j (lane h l)) = x (ix4 b j h l) := by
  pointwise [flat]
  have hl := l.isLt
  exact congrArg₂ (fun p q => x (ix4 b j p q)) (Fin.ext (by show (128 * h.val + l.val) / 128 = h.val; omega)) (Fin.ext (by show (128 * h.val + l.val) % 128 = l.val; omega))

/-- A head's values under 64 lanes of ones. -/
def ones (x : FVec Ideal S16x4096x4x64 .f32) : FVec Ideal S16x4096x4x128 .f32 :=
  concatenate S16x4096x4x128 3 [⟨S16x4096x4x64, (broadcastInDim S16x4096x4x64 ![] bcast_S_S16x4096x4x64 (constant (F := Ideal) S_ .f32 0x3F800000#32) : FVec Ideal S16x4096x4x64 .f32)⟩, ⟨S16x4096x4x64, x⟩] concatenates_S16x4096x4x64_S16x4096x4x64_S16x4096x4x128_d3

theorem ones_at (x : FVec Ideal S16x4096x4x64 .f32) (b : Fin 16) (j : Fin 4096) (h : Fin 4) (l : Fin 128) :
    ones x (ix4 b j h l) = if h1 : l.val < 64 then 1 else x (ix4 b j h ⟨l.val - 64, by have := l.isLt; omega⟩) := by
  pointwise [ones]

theorem log_two : Ideal.log (Ideal.ofBits .f32 0x40000000#32) = (Real.log 2 : EReal) := by
  have e : Ideal.ofBits .f32 0x40000000#32 = ((2 : ℝ) : EReal) := by simp [Ideal.ofBits, Ideal.ieee]; rw [← EReal.coe_mul]; norm_num
  rw [e, Ideal.log_coe, if_neg (by norm_num)]

theorem sqrt_96 : Ideal.sqrt (Ideal.ofBits .f32 0x42C00000#32) = (√96 : EReal) := by
  have e : Ideal.ofBits .f32 0x42C00000#32 = ((96 : ℝ) : EReal) := by simp [Ideal.ofBits, Ideal.ieee]; rw [← EReal.coe_mul]; norm_num
  rw [e, Ideal.sqrt_coe, if_neg (by norm_num)]

theorem log_ne : Real.log 2 ≠ 0 := (Real.log_pos (by norm_num)).ne'
theorem sqrt_ne : √(96 : ℝ) ≠ 0 := (Real.sqrt_pos.2 (by norm_num)).ne'

end Cert.Lanes

end
-- ==== Proof.MlaReference.lean ====
/- The MLA attention's reference over real arguments: the causal softmax average of a head's values. -/
module

public import proofs.«01_k».proof.Proof.Causal
public import proofs.«01_k».proof.Proof.Lanes
public import proofs.«01_k».proof.Proof.Gen.ReferenceIdeal.Read

@[expose] public section

set_option maxRecDepth 16384

noncomputable section

namespace Cert.ReferenceIdeal.Rows

open Idealize.ShloMosaic Idealize.ShloMosaic.TcCoe Idealize.SL.Sem
open Cert.ReferenceIdeal Cert.ReferenceIdeal.Read Cert.Online

variable (x0 : FVec Ideal S16x4096x4x64 .f32) (x1 : FVec Ideal S16x4096x4x32 .f32) (x2 : FVec Ideal S16x4096x4x64 .f32) (x3 : FVec Ideal S16x4096x32 .f32) (x4 : FVec Ideal S16x4096x4x64 .f32)

theorem whole : val_main_v29 (F := Ideal) x0 x1 x2 x3 x4 = Cert.Causal.result (val_main_v6 (F := Ideal) x0 x1 x2 x3) x4 := rfl

theorem logit_at (b : Fin 16) (h : Fin 4) (q k : Fin 4096) :
    val_main_v6 (F := Ideal) x0 x1 x2 x3 (ix4 b h q k)
      = Ideal.div ((∑ d : Fin 64, x0 (ix4 b q h d) * x2 (ix4 b k h d)) + ∑ d : Fin 32, x3 (ix3 b k d) * x1 (ix4 b q h d)) (√96 : EReal) := by
  rw [← Cert.Lanes.sqrt_96]
  pointwise [val_main_v6, val_main_v5, val_main_v4, val_main_v3, val_main_v2, val_main_v1, val_main_v0, val_main_cst]

end Cert.ReferenceIdeal.Rows

end
-- ==== Proof.Finite.lean ====
/- What a precondition says: every element of every argument is a real number. -/
module

public import proofs.«01_k».proof.Pre_mla_finite
public import proofs.«01_k».proof.Pre_fox_finite
public import Idealize.ShloMosaic.Lib.ReduceAll
public import Idealize.ShloMosaic.Lib.Pointwise

@[expose] public section

set_option maxRecDepth 16384

noncomputable section

namespace Cert.Finite

open Idealize.ShloMosaic

/-- Every element is a real. -/
def Fine {s : Shape} (x : s.Idx → EReal) : Prop := ∀ i, x i = ((x i).toReal : EReal)

/-- An element whose size is below infinity is a real. -/
theorem real_of (v : EReal) (h : Ideal.cmp .olt (max v (-v)) (Ideal.ofBits .f32 0x7F800000#32) = 1#1) : v = (v.toReal : EReal) := by
  have ht : Ideal.ofBits .f32 0x7F800000#32 = ⊤ := by simp [Ideal.ofBits, Ideal.ieee]
  rw [ht] at h
  have hlt : max v (-v) < ⊤ := by
    by_contra hc
    simp [Ideal.cmp, hc] at h
  refine (EReal.coe_toReal (fun e => ?_) fun e => ?_).symm
  · rw [e] at hlt; simp at hlt
  · rw [e] at hlt; simp at hlt

/-- If every element's size tests below infinity, all are real. -/
theorem fine_of {s : Shape} {axes : List (Fin s.rank)} (x : FVec Ideal s .f32) (hb : Cert.Pre_mla_finite.S_.BroadcastsInDim s (![] : Fin 0 → Fin s.rank))
    (hr : s.ReducesTo axes Cert.Pre_mla_finite.S_) (hu : 0 < Cert.Pre_mla_finite.S_.numel) (j : Cert.Pre_mla_finite.S_.Idx)
    (e : Host.reduce IntOp.andi (cmpf .olt (Host.absf x) (broadcastInDim s ![] hb (constant (F := Ideal) Cert.Pre_mla_finite.S_ .f32 0x7F800000#32)))
      (constantI Cert.Pre_mla_finite.S_ 1 1#1) hr hu j = 1#1) : Fine (s := s) x := by
  intro i
  haveI : Subsingleton Cert.Pre_mla_finite.S_.Idx := ⟨fun a b => funext fun k => k.elim0⟩
  exact real_of _ (Host.reduce_andi_all _ _ hr hu j e i)

/-- Four flags side by side. -/
theorem flags4 (a0 a1 a2 a3 : IVec Cert.Pre_mla_finite.S_ 1) (hb : Cert.Pre_mla_finite.S_.BroadcastsInDim Cert.Pre_mla_finite.S1 (![] : Fin 0 → Fin Cert.Pre_mla_finite.S1.rank))
    (hc : Shape.Concatenates [Cert.Pre_mla_finite.S1, Cert.Pre_mla_finite.S1, Cert.Pre_mla_finite.S1, Cert.Pre_mla_finite.S1] Cert.Pre_mla_finite.S4 0)
    (e : concatenate Cert.Pre_mla_finite.S4 0 [⟨Cert.Pre_mla_finite.S1, broadcastInDim Cert.Pre_mla_finite.S1 ![] hb a0⟩, ⟨Cert.Pre_mla_finite.S1, broadcastInDim Cert.Pre_mla_finite.S1 ![] hb a1⟩, ⟨Cert.Pre_mla_finite.S1, broadcastInDim Cert.Pre_mla_finite.S1 ![] hb a2⟩, ⟨Cert.Pre_mla_finite.S1, broadcastInDim Cert.Pre_mla_finite.S1 ![] hb a3⟩] hc
      = fun _ => 1#1) : a0 ix0 = 1#1 ∧ a1 ix0 = 1#1 ∧ a2 ix0 = 1#1 ∧ a3 ix0 = 1#1 := by
  have h : ∀ n : Fin 4, ![a0 ix0, a1 ix0, a2 ix0, a3 ix0] n = 1#1 := by
    intro n
    rw [← congrFun e (ix1 n)]
    pointwise
    fin_cases n <;> rfl
  exact ⟨h 0, h 1, h 2, h 3⟩

/-- The MLA attention's precondition. -/
theorem mla [Cert.Pre_mla_finite.Facts] (x0 : FVec Ideal Cert.Pre_mla_finite.S16x4096x4x64 .f32) (x1 : FVec Ideal Cert.Pre_mla_finite.S16x4096x4x32 .f32)
    (x2 : FVec Ideal Cert.Pre_mla_finite.S16x4096x4x64 .f32) (x3 : FVec Ideal Cert.Pre_mla_finite.S16x4096x32 .f32) (x4 : FVec Ideal Cert.Pre_mla_finite.S16x4096x4x64 .f32)
    (e : Cert.Pre_mla_finite.fn (F := Ideal) x0 x1 x2 x3 x4 = fun _ => 1#1) :
    Fine (s := Cert.Pre_mla_finite.S16x4096x4x64) x0 ∧ Fine (s := Cert.Pre_mla_finite.S16x4096x4x32) x1 ∧ Fine (s := Cert.Pre_mla_finite.S16x4096x4x64) x2
      ∧ Fine (s := Cert.Pre_mla_finite.S16x4096x32) x3 := by
  obtain ⟨h0, h1, h2, h3⟩ := flags4 _ _ _ _ Cert.Pre_mla_finite.Facts.bcast_S_S1 Cert.Pre_mla_finite.Facts.concatenates_S1_S1_S1_S1_S4_d0 e
  exact ⟨fine_of x0 _ _ _ _ h0, fine_of x1 _ _ _ _ h1, fine_of x2 _ _ _ _ h2, fine_of x3 _ _ _ _ h3⟩

/-- Three flags side by side. -/
theorem flags3 (a0 a1 a2 : IVec Cert.Pre_fox_finite.S_ 1) (hb : Cert.Pre_fox_finite.S_.BroadcastsInDim Cert.Pre_fox_finite.S1 (![] : Fin 0 → Fin Cert.Pre_fox_finite.S1.rank))
    (hc : Shape.Concatenates [Cert.Pre_fox_finite.S1, Cert.Pre_fox_finite.S1, Cert.Pre_fox_finite.S1] Cert.Pre_fox_finite.S3 0)
    (e : concatenate Cert.Pre_fox_finite.S3 0 [⟨Cert.Pre_fox_finite.S1, broadcastInDim Cert.Pre_fox_finite.S1 ![] hb a0⟩, ⟨Cert.Pre_fox_finite.S1, broadcastInDim Cert.Pre_fox_finite.S1 ![] hb a1⟩, ⟨Cert.Pre_fox_finite.S1, broadcastInDim Cert.Pre_fox_finite.S1 ![] hb a2⟩] hc
      = fun _ => 1#1) : a0 ix0 = 1#1 ∧ a1 ix0 = 1#1 ∧ a2 ix0 = 1#1 := by
  have h : ∀ n : Fin 3, ![a0 ix0, a1 ix0, a2 ix0] n = 1#1 := by
    intro n
    rw [← congrFun e (ix1 n)]
    pointwise
    fin_cases n <;> rfl
  exact ⟨h 0, h 1, h 2⟩

/-- The FoX attention's precondition. -/
theorem fox [Cert.Pre_fox_finite.Facts] (x0 x1 x2 : FVec Ideal Cert.Pre_fox_finite.S16x4096x4x64 .f32) (x3 : FVec Ideal Cert.Pre_fox_finite.S16x4096x4 .f32)
    (e : Cert.Pre_fox_finite.fn (F := Ideal) x0 x1 x2 x3 = fun _ => 1#1) :
    Fine (s := Cert.Pre_fox_finite.S16x4096x4x64) x0 ∧ Fine (s := Cert.Pre_fox_finite.S16x4096x4x64) x1
      ∧ Fine (s := Cert.Pre_fox_finite.S16x4096x4) x3 := by
  obtain ⟨h0, h1, h2⟩ := flags3 _ _ _ Cert.Pre_fox_finite.Facts.bcast_S_S1 Cert.Pre_fox_finite.Facts.concatenates_S1_S1_S1_S3_d0 e
  exact ⟨fine_of x0 _ _ _ _ h0, fine_of x1 _ _ _ _ h1, fine_of x3 _ _ _ _ h2⟩

end Cert.Finite

end
-- ==== Proof.Mla.lean ====
/- The MLA attention call: the array the kernel leaves is its reference's. -/
module

public import proofs.«01_k».proof.Proof.MlaRows
public import proofs.«01_k».proof.Proof.MlaReference
public import proofs.«01_k».proof.Proof.Finite

@[expose] public section

set_option maxRecDepth 16384

noncomputable section

namespace Cert.KernelIdeal.Rows

open Idealize.ShloMosaic Idealize.ShloMosaic.TcCoe Idealize.SL.Sem
open Idealize.ShloMosaic.Pipeline (Dat)
open Cert.KernelIdeal Cert.KernelIdeal.Gen Cert.Tile Cert.Online Cert.Lanes Cert.Finite

variable (m : (ℓ : Loc nD τ sig) → Buf (Elt Ideal) ℓ)

/-- The block every window reads or writes at a grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

theorem tile_of : ∀ t : Fin cfg0.N, ((grid0.coords t) 1).val = t.val % 8 :=
  (by decide +kernel : ∀ t : Fin grid0.N, _)

/-- The batch a grid point works on. -/
def bat (t : Fin cfg0.N) : Fin 16 := ⟨t.val / 8, Nat.div_lt_of_lt_mul t.isLt⟩

/-- The row of the array that is row `r` of the point's block. -/
def row (t : Fin cfg0.N) (r : Fin 512) : Fin 4096 := ⟨512 * (t.val % 8) + r.val, by have := r.isLt; omega⟩

variable (c : Dev nD) (t : Fin cfg0.N)

/-- A head's own lanes, its rotated lanes and 32 more. -/
def cat3 (x : FVec Ideal S16x4096x4x64 .f32) (y z : FVec Ideal S16x4096x4x32 .f32) : FVec Ideal S16x4096x4x128 .f32 :=
  concatenate S16x4096x4x128 3 [⟨S16x4096x4x64, x⟩, ⟨S16x4096x4x32, y⟩, ⟨S16x4096x4x32, z⟩] concatenates_S16x4096x4x64_S16x4096x4x32_S16x4096x4x32_S16x4096x4x128_d3

/-- The host's operations before the kernel, one at a time. -/
theorem V3 : V m c main_v3 = (Host.divf (constant S_ .f32 0x3F800000#32) (mulf (Host.sqrt (constant S_ .f32 0x42C00000#32)) (Host.log (constant S_ .f32 0x40000000#32))) : FVec Ideal S_ .f32) := rfl
theorem V4 : V m c main_v4 = (broadcastInDim S16x4096x4x32 ![] bcast_S_S16x4096x4x32 (constant (F := Ideal) S_ .f32 0x00000000#32) : FVec Ideal S16x4096x4x32 .f32) := rfl
theorem V5 : V m c main_v5 = (broadcastInDim S16x4096x4x64 ![] bcast_S_S16x4096x4x64 (V m c main_v3 : FVec Ideal S_ .f32) : FVec Ideal S16x4096x4x64 .f32) := rfl
theorem V6 : V m c main_v6 = (mulf (V m c main_v5 : FVec Ideal S16x4096x4x64 .f32) (m ((c : Thread nD τ).loc main_arg0)) : FVec Ideal S16x4096x4x64 .f32) := rfl
theorem V7 : V m c main_v7 = (broadcastInDim S16x4096x4x32 ![] bcast_S_S16x4096x4x32 (V m c main_v3 : FVec Ideal S_ .f32) : FVec Ideal S16x4096x4x32 .f32) := rfl
theorem V8 : V m c main_v8 = (mulf (V m c main_v7 : FVec Ideal S16x4096x4x32 .f32) (m ((c : Thread nD τ).loc main_arg1)) : FVec Ideal S16x4096x4x32 .f32) := rfl
theorem V9 : V m c main_v9 = cat3 (V m c main_v6) (V m c main_v8) (V m c main_v4) := rfl
theorem V10 : V m c main_v10 = (broadcastInDim S16x4096x1x32 ![0, 1, 3] bcast_S16x4096x32_S16x4096x1x32_0_1_3 (m ((c : Thread nD τ).loc main_arg3) : FVec Ideal S16x4096x32 .f32) : FVec Ideal S16x4096x1x32 .f32) := rfl
theorem V11 : V m c main_v11 = (broadcastInDim S16x4096x4x32 ![0, 1, 2, 3] bcast_S16x4096x1x32_S16x4096x4x32_0_1_2_3 (V m c main_v10 : FVec Ideal S16x4096x1x32 .f32) : FVec Ideal S16x4096x4x32 .f32) := rfl
theorem V12 : V m c main_v12 = cat3 (m ((c : Thread nD τ).loc main_arg2)) (V m c main_v11) (V m c main_v4) := rfl
theorem V14 : V m c main_v14 = ones (m ((c : Thread nD τ).loc main_arg4)) := rfl
theorem V15 : V m c main_v15 = (shapeCast S16x4096x512 (V m c main_v9 : FVec Ideal S16x4096x4x128 .f32) shapeCasts_S16x4096x4x128_S16x4096x512 : FVec Ideal S16x4096x512 .f32) := rfl
theorem V16 : V m c main_v16 = (truncf .bf16 (V m c main_v15 : FVec Ideal S16x4096x512 .f32) bitsLt_bf16_f32 : FVec Ideal S16x4096x512 .bf16) := rfl
theorem V17 : V m c main_v17 = (shapeCast S16x4096x512 (V m c main_v12 : FVec Ideal S16x4096x4x128 .f32) shapeCasts_S16x4096x4x128_S16x4096x512 : FVec Ideal S16x4096x512 .f32) := rfl
theorem V18 : V m c main_v18 = (truncf .bf16 (V m c main_v17 : FVec Ideal S16x4096x512 .f32) bitsLt_bf16_f32 : FVec Ideal S16x4096x512 .bf16) := rfl
theorem V19 : V m c main_v19 = (shapeCast S16x4096x512 (V m c main_v14 : FVec Ideal S16x4096x4x128 .f32) shapeCasts_S16x4096x4x128_S16x4096x512 : FVec Ideal S16x4096x512 .f32) := rfl
theorem V20 : V m c main_v20 = (truncf .bf16 (V m c main_v19 : FVec Ideal S16x4096x512 .f32) bitsLt_bf16_f32 : FVec Ideal S16x4096x512 .bf16) := rfl

/-- The factor the host multiplies the queries by. -/
def scale : FVec Ideal S_ .f32 := Host.divf (constant S_ .f32 0x3F800000#32) (mulf (Host.sqrt (constant S_ .f32 0x42C00000#32)) (Host.log (constant S_ .f32 0x40000000#32)))

theorem scale_eq : scale ix0 = ((1 / (√96 * Real.log 2) : ℝ) : EReal) := by
  pointwise [scale]
  rw [sqrt_96, log_two, ← EReal.coe_mul, Ideal.div_coe (mul_ne_zero sqrt_ne log_ne), one_mul]

def qPrep (x0 : FVec Ideal S16x4096x4x64 .f32) (x1 : FVec Ideal S16x4096x4x32 .f32) : FVec Ideal S16x4096x4x128 .f32 :=
  cat3 (mulf (broadcastInDim S16x4096x4x64 ![] bcast_S_S16x4096x4x64 scale) x0) (mulf (broadcastInDim S16x4096x4x32 ![] bcast_S_S16x4096x4x32 scale) x1) (broadcastInDim S16x4096x4x32 ![] bcast_S_S16x4096x4x32 (constant (F := Ideal) S_ .f32 0x00000000#32))
def kPrep (x2 : FVec Ideal S16x4096x4x64 .f32) (x3 : FVec Ideal S16x4096x32 .f32) : FVec Ideal S16x4096x4x128 .f32 :=
  cat3 x2 (broadcastInDim S16x4096x4x32 ![0, 1, 2, 3] bcast_S16x4096x1x32_S16x4096x4x32_0_1_2_3 (broadcastInDim S16x4096x1x32 ![0, 1, 3] bcast_S16x4096x32_S16x4096x1x32_0_1_3 x3)) (broadcastInDim S16x4096x4x32 ![] bcast_S_S16x4096x4x32 (constant (F := Ideal) S_ .f32 0x00000000#32))

theorem queries : V m c main_v16 = flat (qPrep (m ((c : Thread nD τ).loc main_arg0)) (m ((c : Thread nD τ).loc main_arg1))) := by
  rw [V16, V15, V9, V6, V8, V5, V7, V3, V4]; rfl
theorem keys : V m c main_v18 = flat (kPrep (m ((c : Thread nD τ).loc main_arg2)) (m ((c : Thread nD τ).loc main_arg3))) := by
  rw [V18, V17, V12, V11, V10, V4]; rfl
theorem values : V m c main_v20 = flat (ones (m ((c : Thread nD τ).loc main_arg4))) := by
  rw [V20, V19, V14]; rfl

theorem q_at (x0 : FVec Ideal S16x4096x4x64 .f32) (x1 : FVec Ideal S16x4096x4x32 .f32) (f0 : Fine (s := S16x4096x4x64) x0) (f1 : Fine (s := S16x4096x4x32) x1) (b : Fin 16) (j : Fin 4096) (h : Fin 4) (l : Fin 128) :
    qPrep x0 x1 (ix4 b j h l) = (lanes (fun d => 1 / (√96 * Real.log 2) * (x0 (ix4 b j h d)).toReal) (fun d => 1 / (√96 * Real.log 2) * (x1 (ix4 b j h d)).toReal) (fun _ => 0) l : EReal) := by
  have e : qPrep x0 x1 (ix4 b j h l) = if h1 : l.val < 64 then scale ix0 * x0 (ix4 b j h ⟨l.val, h1⟩) else if h2 : l.val - 64 < 32 then scale ix0 * x1 (ix4 b j h ⟨l.val - 64, h2⟩) else 0 := by
    pointwise [qPrep, cat3]
  rw [e, scale_eq]
  unfold lanes
  by_cases h1 : l.val < 64
  · rw [dif_pos h1, dif_pos h1]; exact (congrArg (_ * ·) (f0 _)).trans (EReal.coe_mul _ _).symm
  · by_cases h2 : l.val < 96
    · rw [dif_neg h1, dif_neg h1, dif_pos h2, dif_pos (by omega)]; exact (congrArg (_ * ·) (f1 _)).trans (EReal.coe_mul _ _).symm
    · rw [dif_neg h1, dif_neg h1, dif_neg h2, dif_neg (by omega), EReal.coe_zero]

theorem k_at (x2 : FVec Ideal S16x4096x4x64 .f32) (x3 : FVec Ideal S16x4096x32 .f32) (f2 : Fine (s := S16x4096x4x64) x2) (f3 : Fine (s := S16x4096x32) x3) (b : Fin 16) (j : Fin 4096) (h : Fin 4) (l : Fin 128) :
    kPrep x2 x3 (ix4 b j h l) = (lanes (fun d => (x2 (ix4 b j h d)).toReal) (fun d => (x3 (ix3 b j d)).toReal) (fun _ => 0) l : EReal) := by
  have e : kPrep x2 x3 (ix4 b j h l) = if h1 : l.val < 64 then x2 (ix4 b j h ⟨l.val, h1⟩) else if h2 : l.val - 64 < 32 then x3 (ix3 b j ⟨l.val - 64, h2⟩) else 0 := by
    pointwise [kPrep, cat3]
  rw [e]
  unfold lanes
  by_cases h1 : l.val < 64
  · rw [dif_pos h1, dif_pos h1]; exact f2 _
  · by_cases h2 : l.val < 96
    · rw [dif_neg h1, dif_neg h1, dif_pos h2, dif_pos (by omega)]; exact f3 _
    · rw [dif_neg h1, dif_neg h1, dif_neg h2, dif_neg (by omega), EReal.coe_zero]

theorem blk0 (X : FVec Ideal S16x4096x512 .bf16) (hX : V m c main_v16 = X) (r l : Fin 512) : iblk m c 0 t (ix3 0 r l) = X (ix3 (bat t) (row t r) l) := by
  have hX' : V m c (Pipeline.arrRef spec0 0) = X := hX
  have he : ((View.whole main_v16).slice (win0_0.rect t)).emb (ix3 0 r l) = ix3 (bat t) (row t r) l := by
    funext a; apply Fin.ext; fin_cases a <;> blk_simp [idx t, bat, row] <;> first | rfl | exact congrArg (· + _) (Nat.mul_comm _ _)
  unfold iblk
  rw [hX']
  exact congrArg X he
theorem blk1 (X : FVec Ideal S16x4096x512 .bf16) (hX : V m c main_v18 = X) (k : Fin 4096) (l : Fin 512) : iblk m c 1 t (ix3 0 k l) = X (ix3 (bat t) k l) := by
  have hX' : V m c (Pipeline.arrRef spec0 1) = X := hX
  have he : ((View.whole main_v18).slice (win0_1.rect t)).emb (ix3 0 k l) = ix3 (bat t) k l := by
    funext a; apply Fin.ext; fin_cases a <;> blk_simp [idx t, bat, row] <;> first | rfl | exact congrArg (· + _) (Nat.mul_comm _ _)
  unfold iblk
  rw [hX']
  exact congrArg X he
theorem blk2 (X : FVec Ideal S16x4096x512 .bf16) (hX : V m c main_v20 = X) (k : Fin 4096) (l : Fin 512) : iblk m c 2 t (ix3 0 k l) = X (ix3 (bat t) k l) := by
  have hX' : V m c (Pipeline.arrRef spec0 2) = X := hX
  have he : ((View.whole main_v20).slice (win0_2.rect t)).emb (ix3 0 k l) = ix3 (bat t) k l := by
    funext a; apply Fin.ext; fin_cases a <;> blk_simp [idx t, bat, row] <;> first | rfl | exact congrArg (· + _) (Nat.mul_comm _ _)
  unfold iblk
  rw [hX']
  exact congrArg X he

/-- The reference's result, over this program's arguments. -/
abbrev ref : FVec Ideal S16x4096x256 .bf16 :=
  Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- What the precondition says of the arguments. -/
def Finite4 : Prop := Fine (s := S16x4096x4x64) (m ((c : Thread nD τ).loc main_arg0)) ∧ Fine (s := S16x4096x4x32) (m ((c : Thread nD τ).loc main_arg1)) ∧ Fine (s := S16x4096x4x64) (m ((c : Thread nD τ).loc main_arg2))
  ∧ Fine (s := S16x4096x32) (m ((c : Thread nD τ).loc main_arg3))

/-- What a grid point stores is its block of the reference's result. -/
theorem point (hf : Finite4 m c) (r : Fin 512) (e : Fin 256) : outsAt0 m c t (ix3 0 r e) = ref m c (ix3 (bat t) (row t r) e) := by
  obtain ⟨f0, f1, f2, f3⟩ := hf
  unfold ref
  generalize hx0 : (m ((c : Thread nD τ).loc main_arg0) : FVec Ideal S16x4096x4x64 .f32) = x0 at *
  generalize hx1 : (m ((c : Thread nD τ).loc main_arg1) : FVec Ideal S16x4096x4x32 .f32) = x1 at *
  generalize hx2 : (m ((c : Thread nD τ).loc main_arg2) : FVec Ideal S16x4096x4x64 .f32) = x2 at *
  generalize hx3 : (m ((c : Thread nD τ).loc main_arg3) : FVec Ideal S16x4096x32 .f32) = x3 at *
  generalize hx4 : (m ((c : Thread nD τ).loc main_arg4) : FVec Ideal S16x4096x4x64 .f32) = x4 at *
  have hq : V m c main_v16 = flat (qPrep x0 x1) := by rw [queries, hx0, hx1]
  have hk : V m c main_v18 = flat (kPrep x2 x3) := by rw [keys, hx2, hx3]
  have hv : V m c main_v20 = flat (ones x4) := by rw [values, hx4]
  have he := e.isLt
  have key := out_soft c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) r e
    (fun k => ∑ d : Fin 64, (1 / (√96 * Real.log 2) * (x0 (ix4 (bat t) (row t r) ⟨e.val / 64, by omega⟩ d)).toReal) * (x2 (ix4 (bat t) k ⟨e.val / 64, by omega⟩ d)).toReal
      + (∑ d : Fin 32, (1 / (√96 * Real.log 2) * (x1 (ix4 (bat t) (row t r) ⟨e.val / 64, by omega⟩ d)).toReal) * (x3 (ix3 (bat t) k d)).toReal + ∑ _d : Fin 32, (0 : ℝ) * 0))
    (fun k l => if h1 : l.val < 64 then 1 else x4 (ix4 (bat t) k ⟨e.val / 64, by omega⟩ ⟨l.val - 64, by have := l.isLt; omega⟩))
    (fun k => by
      refine (Finset.sum_congr rfl fun l _ => ?_).trans (dot_lanes _ _ _ _ _ _)
      exact congrArg₂ (· * ·) ((blk0 m c t _ hq r _).trans ((flat_at _ _ _ _ _).trans (q_at x0 x1 f0 f1 _ _ _ l))) ((blk1 m c t _ hk k _).trans ((flat_at _ _ _ _ _).trans (k_at x2 x3 f2 f3 _ _ _ l))))
    (fun k l => (blk2 m c t _ hv k _).trans ((flat_at _ _ _ _ _).trans (ones_at x4 _ _ _ l)))
    (fun k => dif_pos (by decide))
  unfold outsAt0
  refine key.trans (Eq.symm ?_)
  rw [Cert.ReferenceIdeal.Rows.whole]
  refine (Cert.Causal.result_soft (Cert.ReferenceIdeal.Read.val_main_v6 (F := Ideal) x0 x1 x2 x3) x4 (bat t) (row t r) e
    (fun k => ((∑ d : Fin 64, (x0 (ix4 (bat t) (row t r) ⟨e.val / 64, by omega⟩ d)).toReal * (x2 (ix4 (bat t) k ⟨e.val / 64, by omega⟩ d)).toReal)
      + ∑ d : Fin 32, (x3 (ix3 (bat t) k d)).toReal * (x1 (ix4 (bat t) (row t r) ⟨e.val / 64, by omega⟩ d)).toReal) * (1 / √96))
    (fun k => x4 (ix4 (bat t) k ⟨e.val / 64, by omega⟩ ⟨e.val % 64, Nat.mod_lt _ (by decide)⟩)) (fun k => ?_) (fun k => rfl)).trans ?_
  · rw [Cert.ReferenceIdeal.Rows.logit_at, Ideal.div_coe sqrt_ne, EReal.coe_mul, EReal.coe_add, coe_sum, coe_sum]
    refine congrArg₂ (fun a b => (a + b) * _) (Finset.sum_congr rfl fun d _ => ?_) (Finset.sum_congr rfl fun d _ => ?_)
    · rw [EReal.coe_mul, ← f0, ← f2]
    · rw [EReal.coe_mul, ← f3, ← f1]
  · rw [tile_of t]
    congr 2
    · funext k
      simp only [mul_assoc (1 / (√96 * Real.log 2)), ← Finset.mul_sum, mul_zero, Finset.sum_const_zero, add_zero]
      have := log_ne
      have := sqrt_ne
      rw [Finset.sum_congr rfl fun d _ => mul_comm (x3 (ix3 (bat t) k d)).toReal _]
      field_simp
    · funext k
      rw [dif_neg (by show ¬ 64 + e.val % 64 < 64; omega)]
      exact congrArg (fun q => x4 (ix4 (bat t) k _ q)) (Fin.ext (by show e.val % 64 = 64 + e.val % 64 - 64; omega))

/-- Where an index of the output's block lies in the array. -/
theorem emb3 (X : FVec Ideal S16x4096x256 .bf16) (a : Fin 1) (r : Fin 512) (d : Fin 256) : X (ix3 (bat t) (row t r) d) = X ((win0_3.blk t).view.emb (ix3 a r d)) := by
  blk_ext [idx t, bat, row]

theorem point_emb (hf : Finite4 m c) (y : S1x512x256.Idx) : outsAt0 m c t y = ref m c ((win0_3.blk t).view.emb y) := by
  obtain ⟨a, r, d, rfl⟩ : ∃ (a : Fin 1) (r : Fin 512) (d : Fin 256), y = ix3 a r d := ⟨y 0, y 1, y 2, by funext x; fin_cases x <;> rfl⟩
  have ha : a = 0 := Subsingleton.elim _ _
  subst ha
  exact (point m c t hf r d).trans (emb3 t (ref m c) 0 r d)

/-- The array the kernel leaves is the reference's result. -/
theorem final (hf : Finite4 m c) : (dats m 0 c).arrAt 3 (cfgs 0).N = ref m c := by
  refine (dats m 0 c).arrAt_eq_of_covers 3 _ (by decide +kernel) fun t ht y => ?_
  blk_simp
  rw [after0_3]
  exact point_emb m c t hf y

end Cert.KernelIdeal.Rows

end
-- ==== Proof.FoxRows.lean ====
/- The FoX attention's body: what a grid point stores is, head by head, the quotient of two lanes of the running softmax of its blocks. -/
module

public import proofs.«01_k».proof.Proof.Tile
public import proofs.«01_k».proof.Proof.Gen.FoxIdeal.Value
public import Idealize.ShloMosaic.Lib.Pipeline.ReadBack

@[expose] public section

set_option maxRecDepth 16384

noncomputable section

namespace Cert.FoxIdeal.Rows

open Idealize.ShloMosaic Idealize.ShloMosaic.TcCoe Idealize.SL.Sem
open Idealize.ShloMosaic.Pipeline (Dat)
open Cert.FoxIdeal Cert.FoxIdeal.Gen Cert.Tile Cert.Online

variable (c : Dev nD) (i : grid0.Coords) (arg2 : Memref sig .tc .vmem S1x512x512 .bf16) (harg2 : arg2.IsWhole) (arg3 : Memref sig .tc .vmem S1x4096x512 .bf16) (harg3 : arg3.IsWhole)
  (arg4 : Memref sig .tc .vmem S1x4096x512 .bf16) (harg4 : arg4.IsWhole) (arg5 : Memref sig .tc .vmem S1x512x256 .bf16) (harg5 : arg5.IsWhole)
  (arg6 : Memref sig .tc .vmem S4x512x128 .f32) (harg6 : arg6.IsWhole) (arg7 : Memref sig .tc .vmem S4x512x128 .f32) (harg7 : arg7.IsWhole)

theorem trips1 : ∀ i : grid0.Coords, (k0_t1_loop i).trips = (i 1).val := by decide +kernel
theorem trips2 : ∀ i : grid0.Coords, (k0_t2_loop i).trips = 0 := by decide +kernel
theorem off9 : ∀ i : grid0.Coords, k0_off9 i = ![0, 512 * (i 1).val, 0] := by decide +kernel
theorem off10 : ∀ i : grid0.Coords, k0_off10 i = ![0, 512 * (i 1).val, 128] := by decide +kernel
theorem off11 : ∀ i : grid0.Coords, k0_off11 i = ![0, 512 * (i 1).val, 256] := by decide +kernel
theorem off12 : ∀ i : grid0.Coords, k0_off12 i = ![0, 512 * (i 1).val, 384] := by decide +kernel

/-- What one trip of the loop over the full tiles writes. -/
theorem trip_eq (X2 : BufTy.Contents (Elt Ideal) arg2.view.ty) (X3 : BufTy.Contents (Elt Ideal) arg3.view.ty) (X4 : BufTy.Contents (Elt Ideal) arg4.view.ty) (k : Fin (k0_t1_loop i).trips)
    (f6 : BufTy.Contents (Elt Ideal) arg6.view.ty) (f7 : BufTy.Contents (Elt Ideal) arg7.view.ty) :
    tripL_k0_t1 (F := Ideal) Variants.none c none i arg2 harg2 arg3 harg3 arg4 harg4 arg5 harg5 arg6 harg6 arg7 harg7 X2 X3 X4 k f6 f7
      = (heads fun h => newM (Cert.KernelIdeal.Gen.k0_pay3 (F := Ideal) (slabQ (arg2.view.read (Elt Ideal) X2) h) (slabK (arg3.view.read (Elt Ideal) X3) k h)) (arg6.view.read (Elt Ideal) f6) h,
          heads fun h => newA (Cert.KernelIdeal.Gen.k0_pay3 (F := Ideal) (slabQ (arg2.view.read (Elt Ideal) X2) h) (slabK (arg3.view.read (Elt Ideal) X3) k h)) (arg4.view.read (Elt Ideal) X4) k
            (arg6.view.read (Elt Ideal) f6) (arg7.view.read (Elt Ideal) f7) h) := by
  have hk : k.val < 8 := by have := lt_of_lt_of_eq k.isLt (trips1 i); have := (i 1).isLt; exact lt_trans (by assumption) this
  unfold tripL_k0_t1 trip_k0_t1
  dsimp only
  unfold heads newM newA
  simp only [← ld_slabQ (arg2.view.read (Elt Ideal) X2) ![0, 0, 0] inb_S1x512x512_S1x512x128_0_0_0 0 rfl, ← ld_slabQ (arg2.view.read (Elt Ideal) X2) ![0, 0, 128] inb_S1x512x512_S1x512x128_0_0_128 1 rfl,
    ← ld_slabQ (arg2.view.read (Elt Ideal) X2) ![0, 0, 256] inb_S1x512x512_S1x512x128_0_0_256 2 rfl, ← ld_slabQ (arg2.view.read (Elt Ideal) X2) ![0, 0, 384] inb_S1x512x512_S1x512x128_0_0_384 3 rfl,
    ← ld_slabK (arg3.view.read (Elt Ideal) X3) (k0_off1 i k) (k0_off1_inb i k) k hk 0 (k0_off1_eq i k), ← ld_slabK (arg3.view.read (Elt Ideal) X3) (k0_off2 i k) (k0_off2_inb i k) k hk 1 (k0_off2_eq i k),
    ← ld_slabK (arg3.view.read (Elt Ideal) X3) (k0_off3 i k) (k0_off3_inb i k) k hk 2 (k0_off3_eq i k), ← ld_slabK (arg3.view.read (Elt Ideal) X3) (k0_off4 i k) (k0_off4_inb i k) k hk 3 (k0_off4_eq i k),
    ← ld_slabK (arg4.view.read (Elt Ideal) X4) (k0_off1 i k) (k0_off1_inb i k) k hk 0 (k0_off1_eq i k), ← ld_slabK (arg4.view.read (Elt Ideal) X4) (k0_off2 i k) (k0_off2_inb i k) k hk 1 (k0_off2_eq i k),
    ← ld_slabK (arg4.view.read (Elt Ideal) X4) (k0_off3 i k) (k0_off3_inb i k) k hk 2 (k0_off3_eq i k), ← ld_slabK (arg4.view.read (Elt Ideal) X4) (k0_off4 i k) (k0_off4_inb i k) k hk 3 (k0_off4_eq i k),
    ← ld_slabS (arg6.view.read (Elt Ideal) f6) ![0, 0, 0] inb_S4x512x128_S1x512x128_0_0_0 0 rfl, ← ld_slabS (arg6.view.read (Elt Ideal) f6) ![1, 0, 0] inb_S4x512x128_S1x512x128_1_0_0 1 rfl,
    ← ld_slabS (arg6.view.read (Elt Ideal) f6) ![2, 0, 0] inb_S4x512x128_S1x512x128_2_0_0 2 rfl, ← ld_slabS (arg6.view.read (Elt Ideal) f6) ![3, 0, 0] inb_S4x512x128_S1x512x128_3_0_0 3 rfl,
    ← ld_slabS (arg7.view.read (Elt Ideal) f7) ![0, 0, 0] inb_S4x512x128_S1x512x128_0_0_0 0 rfl, ← ld_slabS (arg7.view.read (Elt Ideal) f7) ![1, 0, 0] inb_S4x512x128_S1x512x128_1_0_0 1 rfl,
    ← ld_slabS (arg7.view.read (Elt Ideal) f7) ![2, 0, 0] inb_S4x512x128_S1x512x128_2_0_0 2 rfl, ← ld_slabS (arg7.view.read (Elt Ideal) f7) ![3, 0, 0] inb_S4x512x128_S1x512x128_3_0_0 3 rfl]
  rfl

variable (x0 : Vec Ideal S1x512x512 .bf16) (x1 x2 : Vec Ideal S1x4096x512 .bf16)

/-- The blocks as the body's loads find them, and what the full tiles leave in the two buffers. -/
def Q : S1x512x512.Idx → EReal := arg2.view.read (Elt Ideal) (harg2.unread x0)
def K : S1x4096x512.Idx → EReal := arg3.view.read (Elt Ideal) (harg3.unread x1)
def W : S1x4096x512.Idx → EReal := arg4.view.read (Elt Ideal) (harg4.unread x2)

/-- The pieces the loop over the full tiles writes. -/
def tiles1 : List (View.Piece (Elt Ideal) S4x512x128 .f32) × List (View.Piece (Elt Ideal) S4x512x128 .f32) :=
  pb_k0_t1 (F := Ideal) Variants.none c none i arg2 harg2 arg3 harg3 arg4 harg4 arg5 harg5 arg6 harg6 arg7 harg7 (harg2.unread x0) (harg3.unread x1) (harg4.unread x2)
    (arg6.view.writes (Elt Ideal) arg6.view.junk kernelRun0_A.sl.HS0_1) (arg7.view.writes (Elt Ideal) arg7.view.junk kernelRun0_A.sl.HS1_1) (Scf.trips (k0_t1_loop i).lb (k0_t1_loop i).ub (k0_t1_loop i).st)

/-- The pieces of the loop that never runs. -/
def tiles2 : List (View.Piece (Elt Ideal) S4x512x128 .f32) × List (View.Piece (Elt Ideal) S4x512x128 .f32) :=
  pb_k0_t2 (F := Ideal) Variants.none c none i arg2 harg2 arg3 harg3 arg4 harg4 arg5 harg5 arg6 harg6 arg7 harg7 (kernelRun0_A.sl.v15 i) (harg2.unread x0) (harg3.unread x1) (harg4.unread x2)
    (arg6.view.writes (Elt Ideal) arg6.view.junk ((tiles1 c i arg2 harg2 arg3 harg3 arg4 harg4 arg5 harg5 arg6 harg6 arg7 harg7 x0 x1 x2).1 ++ kernelRun0_A.sl.HS0_1))
    (arg7.view.writes (Elt Ideal) arg7.view.junk ((tiles1 c i arg2 harg2 arg3 harg3 arg4 harg4 arg5 harg5 arg6 harg6 arg7 harg7 x0 x1 x2).2 ++ kernelRun0_A.sl.HS1_1))
    (Scf.trips (k0_t2_loop i).lb (k0_t2_loop i).ub (k0_t2_loop i).st)

def M6 : S4x512x128.Idx → EReal := arg6.view.read (Elt Ideal) (arg6.view.writes (Elt Ideal) arg6.view.junk
  ((tiles2 c i arg2 harg2 arg3 harg3 arg4 harg4 arg5 harg5 arg6 harg6 arg7 harg7 x0 x1 x2).1 ++ ((tiles1 c i arg2 harg2 arg3 harg3 arg4 harg4 arg5 harg5 arg6 harg6 arg7 harg7 x0 x1 x2).1 ++ kernelRun0_A.sl.HS0_1)))
def M7 : S4x512x128.Idx → EReal := arg7.view.read (Elt Ideal) (arg7.view.writes (Elt Ideal) arg7.view.junk
  ((tiles2 c i arg2 harg2 arg3 harg3 arg4 harg4 arg5 harg5 arg6 harg6 arg7 harg7 x0 x1 x2).2 ++ ((tiles1 c i arg2 harg2 arg3 harg3 arg4 harg4 arg5 harg5 arg6 harg6 arg7 harg7 x0 x1 x2).2 ++ kernelRun0_A.sl.HS1_1)))

theorem tiles2_nil : tiles2 c i arg2 harg2 arg3 harg3 arg4 harg4 arg5 harg5 arg6 harg6 arg7 harg7 x0 x1 x2 = ([], []) := by
  unfold tiles2
  rw [show Scf.trips (k0_t2_loop i).lb (k0_t2_loop i).ub (k0_t2_loop i).st = 0 from trips2 i]
  rfl

theorem fill6 (h : Fin 4) (r : Fin 512) (l : Fin 128) : arg6.view.read (Elt Ideal) (arg6.view.writes (Elt Ideal) arg6.view.junk (kernelRun0_A.sl.HS0_1 (F := Ideal))) (ix3 h r l) = (⊥ : EReal) := by
  unfold kernelRun0_A.sl.HS0_1
  refine (View.read_writes_cons_unit_of_mem arg6.view _ _ _ _ _ (ix3 h r l) rfl fun a => by fin_cases a <;> simp [ix3]).trans ?_
  pointwise [k0_pay59]
  rfl

theorem fill7 (h : Fin 4) (r : Fin 512) (l : Fin 128) : arg7.view.read (Elt Ideal) (arg7.view.writes (Elt Ideal) arg7.view.junk (kernelRun0_A.sl.HS1_1 (F := Ideal))) (ix3 h r l) = (0 : EReal) := by
  unfold kernelRun0_A.sl.HS1_1
  refine (View.read_writes_cons_unit_of_mem arg7.view _ _ _ _ _ (ix3 h r l) rfl fun a => by fin_cases a <;> simp [ix3]).trans ?_
  pointwise [k0_pay60]

/-- What the full tiles leave: the running softmax of every head and row. -/
theorem left_at (h : Fin 4) (r : Fin 512) (l : Fin 128) :
    M6 c i arg2 harg2 arg3 harg3 arg4 harg4 arg5 harg5 arg6 harg6 arg7 harg7 x0 x1 x2 (ix3 h r l) = (run (logits (Q arg2 harg2 x0) (K arg3 harg3 x1) h r) (vals (W arg4 harg4 x2) h) (i 1).val).1
      ∧ M7 c i arg2 harg2 arg3 harg3 arg4 harg4 arg5 harg5 arg6 harg6 arg7 harg7 x0 x1 x2 (ix3 h r l) = (run (logits (Q arg2 harg2 x0) (K arg3 harg3 x1) h r) (vals (W arg4 harg4 x2) h) (i 1).val).2 l := by
  unfold M6 M7
  rw [tiles2_nil, List.nil_append, List.nil_append, View.writes_append, View.writes_append, ← trips1 i]
  exact loop_reads arg6.view arg7.view _ _ (Q arg2 harg2 x0) (K arg3 harg3 x1) (W arg4 harg4 x2)
    (pb_k0_t1 (F := Ideal) Variants.none c none i arg2 harg2 arg3 harg3 arg4 harg4 arg5 harg5 arg6 harg6 arg7 harg7 (harg2.unread x0) (harg3.unread x1) (harg4.unread x2)
      (arg6.view.writes (Elt Ideal) arg6.view.junk kernelRun0_A.sl.HS0_1) (arg7.view.writes (Elt Ideal) arg7.view.junk kernelRun0_A.sl.HS1_1))
    (k0_t1_loop i).trips rfl (fun k hk => by
      refine (pb_k0_t1_succ (F := Ideal) Variants.none c none i arg2 harg2 arg3 harg3 arg4 harg4 arg5 harg5 arg6 harg6 arg7 harg7 _ _ _ _ _ ⟨k, hk⟩).trans ?_
      rw [trip_eq]
      rfl) (fill6 arg6) (fill7 arg7) _ le_rfl h r l

theorem v51_eq : kernelRun0_A.sl.v51 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 0 := by
  unfold kernelRun0_A.sl.v51
  exact ld_slabS (M6 c i arg2 harg2 arg3 harg3 arg4 harg4 arg5 harg5 arg6 harg6 arg7 harg7 x0 x1 x2) ![0, 0, 0] inb_S4x512x128_S1x512x128_0_0_0 0 rfl

theorem v66_eq : kernelRun0_A.sl.v66 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 1 := by
  unfold kernelRun0_A.sl.v66 kernelRun0_A.sl.HS0_1_1
  refine (View.readCov_skip arg6.view _ _ _ _ (by decide)).trans ?_
  exact ld_slabS (M6 c i arg2 harg2 arg3 harg3 arg4 harg4 arg5 harg5 arg6 harg6 arg7 harg7 x0 x1 x2) ![1, 0, 0] inb_S4x512x128_S1x512x128_1_0_0 1 rfl

theorem v81_eq : kernelRun0_A.sl.v81 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 2 := by
  unfold kernelRun0_A.sl.v81 kernelRun0_A.sl.HS0_2 kernelRun0_A.sl.HS0_1_1
  refine ((View.readCov_skip arg6.view _ _ _ _ (by decide)).trans (View.readCov_skip arg6.view _ _ _ _ (by decide))).trans ?_
  exact ld_slabS (M6 c i arg2 harg2 arg3 harg3 arg4 harg4 arg5 harg5 arg6 harg6 arg7 harg7 x0 x1 x2) ![2, 0, 0] inb_S4x512x128_S1x512x128_2_0_0 2 rfl

theorem v96_eq : kernelRun0_A.sl.v96 (F := Ideal) c i arg2 harg2 arg3 harg3 arg4 harg4 arg5 harg5 arg6 harg6 arg7 harg7 x0 x1 x2 = slabS (M6 c i arg2 harg2 arg3 harg3 arg4 harg4 arg5 harg5 arg6 harg6 arg7 harg7 x0 x1 x2) 3 := by
  unfold kernelRun0_A.sl.v96 kernelRun0_A.sl.HS0_3 kernelRun0_A.sl.HS0_2 kernelRun0_A.sl.HS0_1_1
  refine ((View.readCov_skip arg6.view _ _ _ _ (by decide)).trans ((View.readCov_skip arg6.view _ _ _ _ (by decide)).trans (View.readCov_skip arg6.view _ _ _ _ (by decide)))).trans ?_
  exact ld_slabS (M6 c i arg2 harg2 arg3 harg3 arg4 harg4 arg5 harg5 arg6 harg6 arg7 harg7 x0 x1 x2) ![3, 0, 0] inb_S4x512x128_S1x512x128_3_0_0 3 rfl

theorem v111_eq : kernelRun0_A.sl.v111 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 0 := by
  unfold kernelRun0_A.sl.v111
  exact ld_slabS (M7 c i arg2 harg2 arg3 harg3 arg4 harg4 arg5 harg5 arg6 harg6 arg7 harg7 x0 x1 x2) ![0, 0, 0] inb_S4x512x128_S1x512x128_0_0_0 0 rfl

theorem v122_eq : kernelRun0_A.sl.v122 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 1 := by
  unfold kernelRun0_A.sl.v122 kernelRun0_A.sl.HS1_1_1
  refine (View.readCov_skip arg7.view _ _ _ _ (by decide)).trans ?_
  exact ld_slabS (M7 c i arg2 harg2 arg3 harg3 arg4 harg4 arg5 harg5 arg6 harg6 arg7 harg7 x0 x1 x2) ![1, 0, 0] inb_S4x512x128_S1x512x128_1_0_0 1 rfl

theorem v133_eq : kernelRun0_A.sl.v133 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 2 := by
  unfold kernelRun0_A.sl.v133 kernelRun0_A.sl.HS1_2 kernelRun0_A.sl.HS1_1_1
  refine ((View.readCov_skip arg7.view _ _ _ _ (by decide)).trans (View.readCov_skip arg7.view _ _ _ _ (by decide))).trans ?_
  exact ld_slabS (M7 c i arg2 harg2 arg3 harg3 arg4 harg4 arg5 harg5 arg6 harg6 arg7 harg7 x0 x1 x2) ![2, 0, 0] inb_S4x512x128_S1x512x128_2_0_0 2 rfl

theorem v144_eq : kernelRun0_A.sl.v144 (F := Ideal) c i arg2 harg2 arg3 harg3 arg4 harg4 arg5 harg5 arg6 harg6 arg7 harg7 x0 x1 x2 = slabS (M7 c i arg2 harg2 arg3 harg3 arg4 harg4 arg5 harg5 arg6 harg6 arg7 harg7 x0 x1 x2) 3 := by
  unfold kernelRun0_A.sl.v144 kernelRun0_A.sl.HS1_3 kernelRun0_A.sl.HS1_2 kernelRun0_A.sl.HS1_1_1
  refine ((View.readCov_skip arg7.view _ _ _ _ (by decide)).trans ((View.readCov_skip arg7.view _ _ _ _ (by decide)).trans (View.readCov_skip arg7.view _ _ _ _ (by decide)))).trans ?_
  exact ld_slabS (M7 c i arg2 harg2 arg3 harg3 arg4 harg4 arg5 harg5 arg6 harg6 arg7 harg7 x0 x1 x2) ![3, 0, 0] inb_S4x512x128_S1x512x128_3_0_0 3 rfl

/-- One head's scaled sums after its own tile. -/
def last (h : Fin 4) : S1x512x128.Idx → Elt Ideal .f32 :=
  newA (Cert.KernelIdeal.Gen.k0_pay68 (F := Ideal) (slabQ (Q arg2 harg2 x0) h) (slabK (K arg3 harg3 x1) (i 1).val h)) (W arg4 harg4 x2) (i 1).val (M6 c i arg2 harg2 arg3 harg3 arg4 harg4 arg5 harg5 arg6 harg6 arg7 harg7 x0 x1 x2) (M7 c i arg2 harg2 arg3 harg3 arg4 harg4 arg5 harg5 arg6 harg6 arg7 harg7 x0 x1 x2) h

theorem lt8 : (i 1).val < 8 := (i 1).isLt

theorem v158_eq : kernelRun0_A.sl.v158 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 0 := by
  unfold kernelRun0_A.sl.v158 kernelRun0_A.sl.HS1_4 kernelRun0_A.sl.HS1_3 kernelRun0_A.sl.HS1_2 kernelRun0_A.sl.HS1_1_1
  refine ((View.readCov_skip arg7.view _ _ _ _ (by decide)).trans ((View.readCov_skip arg7.view _ _ _ _ (by decide)).trans ((View.readCov_skip arg7.view _ _ _ _ (by decide)).trans (View.readCov_cons_toLoadRect arg7.view _ _ _)))).trans ?_
  unfold last newA
  rw [← v51_eq, ← v111_eq, ← ld_slabQ (Q arg2 harg2 x0) ![0, 0, 0] inb_S1x512x512_S1x512x128_0_0_0 0 rfl, ← ld_slabK (K arg3 harg3 x1) (k0_off9 i) (k0_off9_inb i) _ (lt8 i) 0 (off9 i),
    ← ld_slabK (W arg4 harg4 x2) (k0_off9 i) (k0_off9_inb i) _ (lt8 i) 0 (off9 i)]
  rfl

theorem v163_eq : kernelRun0_A.sl.v163 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 1 := by
  unfold kernelRun0_A.sl.v163 kernelRun0_A.sl.HS1_4 kernelRun0_A.sl.HS1_3 kernelRun0_A.sl.HS1_2
  refine ((View.readCov_skip arg7.view _ _ _ _ (by decide)).trans ((View.readCov_skip arg7.view _ _ _ _ (by decide)).trans (View.readCov_cons_toLoadRect arg7.view _ _ _))).trans ?_
  unfold last newA
  rw [← v66_eq, ← v122_eq, ← ld_slabQ (Q arg2 harg2 x0) ![0, 0, 128] inb_S1x512x512_S1x512x128_0_0_128 1 rfl, ← ld_slabK (K arg3 harg3 x1) (k0_off10 i) (k0_off10_inb i) _ (lt8 i) 1 (off10 i),
    ← ld_slabK (W arg4 harg4 x2) (k0_off10 i) (k0_off10_inb i) _ (lt8 i) 1 (off10 i)]
  rfl

theorem v174_eq : kernelRun0_A.sl.v174 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 2 := by
  unfold kernelRun0_A.sl.v174 kernelRun0_A.sl.HS1_4 kernelRun0_A.sl.HS1_3
  refine ((View.readCov_skip arg7.view _ _ _ _ (by decide)).trans (View.readCov_cons_toLoadRect arg7.view _ _ _)).trans ?_
  unfold last newA
  rw [← v81_eq, ← v133_eq, ← ld_slabQ (Q arg2 harg2 x0) ![0, 0, 256] inb_S1x512x512_S1x512x128_0_0_256 2 rfl, ← ld_slabK (K arg3 harg3 x1) (k0_off11 i) (k0_off11_inb i) _ (lt8 i) 2 (off11 i),
    ← ld_slabK (W arg4 harg4 x2) (k0_off11 i) (k0_off11_inb i) _ (lt8 i) 2 (off11 i)]
  rfl

theorem v179_eq : kernelRun0_A.sl.v179 (F := Ideal) c i arg2 harg2 arg3 harg3 arg4 harg4 arg5 harg5 arg6 harg6 arg7 harg7 x0 x1 x2 = last c i arg2 harg2 arg3 harg3 arg4 harg4 arg5 harg5 arg6 harg6 arg7 harg7 x0 x1 x2 3 := by
  unfold kernelRun0_A.sl.v179 kernelRun0_A.sl.HS1_4
  refine (View.readCov_cons_toLoadRect arg7.view _ _ _).trans ?_
  unfold last newA
  rw [← v96_eq, ← v144_eq, ← ld_slabQ (Q arg2 harg2 x0) ![0, 0, 384] inb_S1x512x512_S1x512x128_0_0_384 3 rfl, ← ld_slabK (K arg3 harg3 x1) (k0_off12 i) (k0_off12_inb i) _ (lt8 i) 3 (off12 i),
    ← ld_slabK (W arg4 harg4 x2) (k0_off12 i) (k0_off12_inb i) _ (lt8 i) 3 (off12 i)]
  rfl

/-- A stored column, where the column's head has real logits: the causal softmax average of the head's values. -/
theorem out_soft (r : Fin 512) (e : Fin 256) (s : Fin 4096 → ℝ) (v : Fin 4096 → Fin 128 → EReal)
    (hs : ∀ k, ∑ l : Fin 128, x0 (ix3 0 r (lane ⟨e.val / 64, by omega⟩ l)) * x1 (ix3 0 k (lane ⟨e.val / 64, by omega⟩ l)) = (s k : EReal))
    (hv : ∀ k l, x2 (ix3 0 k (lane ⟨e.val / 64, by omega⟩ l)) = v k l) (h1 : ∀ k, v k 0 = 1) :
    out0_A_3 (F := Ideal) c i arg2 harg2 arg3 harg3 arg4 harg4 arg5 harg5 arg6 harg6 arg7 harg7 x0 x1 x2 (ix3 0 r e) = soft (512 * (i 1).val + r.val) (fun k => Real.log 2 * s k) (fun k => v k ⟨64 + e.val % 64, by omega⟩) := by
  have e0 : Q arg2 harg2 x0 = x0 := harg2.read_unread x0
  have e1 : K arg3 harg3 x1 = x1 := harg3.read_unread x1
  have e2 : W arg4 harg4 x2 = x2 := harg4.read_unread x2
  unfold out0_A_3 kernelRun0_A
  dsimp only
  unfold kernelRun0_A.sl.r_17
  rw [v158_eq, v163_eq, v174_eq, v179_eq]
  refine (block_at VO0_3 VO0_3.junk (last c i arg2 harg2 arg3 harg3 arg4 harg4 arg5 harg5 arg6 harg6 arg7 harg7 x0 x1 x2) _ _ r e).trans ?_
  have hl := left_at c i arg2 harg2 arg3 harg3 arg4 harg4 arg5 harg5 arg6 harg6 arg7 harg7 x0 x1 x2 ⟨e.val / 64, by omega⟩ r
  unfold last
  rw [e0, e1, e2] at *
  exact head_out x0 x1 x2 (i 1).val (lt8 i) _ r _ _ (fun l => (hl l).1) (fun l => (hl l).2) s v hs hv h1 _

end Cert.FoxIdeal.Rows
-- ==== Proof.FoxHost.lean ====
/- What the host lays out for the FoX attention call: scaled queries with the lanes that pick a head's term, keys with every head's term, values under ones. -/
module

public import proofs.«01_k».proof.Proof.Lanes
public import proofs.«01_k».proof.Proof.Gen.FoxIdeal.Frame.Runs
public import Idealize.ShloMosaic.Lib.StableHlo.RunRead
public import Idealize.ShloMosaic.Lib.Pipeline.Frame

@[expose] public section

set_option maxRecDepth 16384

noncomputable section

namespace Cert.FoxIdeal.Rows

open Idealize.ShloMosaic Idealize.ShloMosaic.TcCoe Idealize.SL.Sem
open Cert.FoxIdeal Cert.FoxIdeal.Gen Cert.Tile Cert.Online Cert.Lanes

/-- The three parts of a term side by side. -/
def three (x y z : FVec Ideal S16x4096x4x1 .f32) : FVec Ideal S16x4096x4x3 .f32 :=
  concatenate S16x4096x4x3 3 [⟨S16x4096x4x1, x⟩, ⟨S16x4096x4x1, y⟩, ⟨S16x4096x4x1, z⟩] concatenates_S16x4096x4x1_S16x4096x4x1_S16x4096x4x1_S16x4096x4x3_d3

/-- A head's own lanes, 32 more, the lanes of the terms and the rest. -/
def cat4 (x : FVec Ideal S16x4096x4x64 .f32) (y : FVec Ideal S16x4096x4x32 .f32) (z : FVec Ideal S16x4096x4x12 .f32) (w : FVec Ideal S16x4096x4x20 .f32) : FVec Ideal S16x4096x4x128 .f32 :=
  concatenate S16x4096x4x128 3 [⟨S16x4096x4x64, x⟩, ⟨S16x4096x4x32, y⟩, ⟨S16x4096x4x12, z⟩, ⟨S16x4096x4x20, w⟩] concatenates_S16x4096x4x64_S16x4096x4x32_S16x4096x4x12_S16x4096x4x20_S16x4096x4x128_d3

/-- 1 / log 2, and the factor of the queries. -/
def recip : FVec Ideal S_ .f32 := Host.divf (constant S_ .f32 0x3F800000#32) (Host.log (constant S_ .f32 0x40000000#32))
def scale : FVec Ideal S_ .f32 := mulf (constant S_ .f32 0x3E000000#32) recip

/-- The terms, and the three parts they are split into. -/
def term (x : FVec Ideal S16x4096x4 .f32) : FVec Ideal S16x4096x4 .f32 := mulf (broadcastInDim S16x4096x4 ![] bcast_S_S16x4096x4 (Host.negf recip)) x
def back (x : FVec Ideal S16x4096x4 .f32) : FVec Ideal S16x4096x4 .f32 := extf .f32 (truncf .bf16 x bitsLt_bf16_f32) bitsLt_bf16_f32
def rest (x : FVec Ideal S16x4096x4 .f32) : FVec Ideal S16x4096x4 .f32 := subf x (back x)
def wide (x : FVec Ideal S16x4096x4 .f32) : FVec Ideal S16x4096x4x1 .f32 := broadcastInDim S16x4096x4x1 ![0, 1, 2] bcast_S16x4096x4_S16x4096x4x1_0_1_2 x
def parts (x : FVec Ideal S16x4096x4 .f32) : FVec Ideal S16x4096x1x12 .f32 :=
  shapeCast S16x4096x1x12 (three (wide (back (term x))) (wide (back (rest (term x)))) (wide (back (rest (rest (term x)))))) shapeCasts_S16x4096x4x3_S16x4096x1x12

/-- The head each lane of the terms belongs to, as the host divides. -/
def third (i : IVec S1x12 32) (n : IVec S_ 32) : IVec S1x12 32 :=
  select (andi (cmpi .ne (signi i) (broadcastInDim S1x12 ![] bcast_S_S1x12 (signi n)))
      (cmpi .ne (Host.remsi i (broadcastInDim S1x12 ![] bcast_S_S1x12 n)) (broadcastInDim S1x12 ![] bcast_S_S1x12 (constantI S_ 32 0#32))))
    (subi (Host.divsi i (broadcastInDim S1x12 ![] bcast_S_S1x12 n)) (broadcastInDim S1x12 ![] bcast_S_S1x12 (constantI S_ 32 1#32)))
    (Host.divsi i (broadcastInDim S1x12 ![] bcast_S_S1x12 n))
def mine (i : IVec S1x12 32) : IVec S4x12 1 :=
  cmpi .eq (broadcastInDim S4x12 ![0, 1] bcast_S1x12_S4x12_0_1 i) (broadcastInDim S4x12 ![0, 1] bcast_S4x1_S4x12_0_1 (broadcastInDim S4x1 ![0] bcast_S4_S4x1_0 (iotaInDim S4 32 0)))
def count : IVec S1x12 32 := broadcastInDim S1x12 ![1] bcast_S12_S1x12_1 (iotaInDim S12 32 0)

/-- A row from a head's own lanes and the lanes of the terms. -/
def layout (x : FVec Ideal S16x4096x4x64 .f32) (z : FVec Ideal S16x4096x4x12 .f32) : FVec Ideal S16x4096x4x128 .f32 :=
  cat4 x (broadcastInDim S16x4096x4x32 ![] bcast_S_S16x4096x4x32 (constant (F := Ideal) S_ .f32 0x00000000#32)) z
    (broadcastInDim S16x4096x4x20 ![] bcast_S_S16x4096x4x20 (constant (F := Ideal) S_ .f32 0x00000000#32))
def pick (i : IVec S4x12 1) : FVec Ideal S16x4096x4x12 .f32 := broadcastInDim S16x4096x4x12 ![2, 3] bcast_S4x12_S16x4096x4x12_2_3 (uitofp (F := Ideal) .f32 i)
def every (p : FVec Ideal S16x4096x1x12 .f32) : FVec Ideal S16x4096x4x12 .f32 := broadcastInDim S16x4096x4x12 ![0, 1, 2, 3] bcast_S16x4096x1x12_S16x4096x4x12_0_1_2_3 p
def times (s : FVec Ideal S_ .f32) (x : FVec Ideal S16x4096x4x64 .f32) : FVec Ideal S16x4096x4x64 .f32 := mulf (broadcastInDim S16x4096x4x64 ![] bcast_S_S16x4096x4x64 s) x
def qPrep (x : FVec Ideal S16x4096x4x64 .f32) : FVec Ideal S16x4096x4x128 .f32 := layout (times scale x) (pick (mine (third count (constantI S_ 32 3#32))))
def kPrep (x : FVec Ideal S16x4096x4x64 .f32) (y : FVec Ideal S16x4096x4 .f32) : FVec Ideal S16x4096x4x128 .f32 := layout x (every (parts y))

section Reads

variable (U : Valuation τ sig (Elt Ideal))

/-- What the host's last operations leave, from what they find. -/
theorem late_q : StableHlo.after hostOps0_2 U (Proc.devRef .tc main_v41) = flat (layout (times (U (Proc.devRef .tc main_v2)) (U (Proc.devRef .tc main_arg0))) (pick (mine (U (Proc.devRef .tc main_v23))))) := by
  after_reads_simp
  rfl
theorem late_k : StableHlo.after hostOps0_2 U (Proc.devRef .tc main_v43) = flat (layout (U (Proc.devRef .tc main_arg1)) (every (U (Proc.devRef .tc main_v20)))) := by
  after_reads_simp
  rfl
theorem late_v : StableHlo.after hostOps0_2 U (Proc.devRef .tc main_v45) = flat (ones (U (Proc.devRef .tc main_arg2))) := by
  after_reads_simp
  rfl

/-- The division of the lanes' numbers. -/
theorem mid_third : StableHlo.after hostOps0_1 U (Proc.devRef .tc main_v23) = third (U (Proc.devRef .tc main_v22)) (U (Proc.devRef .tc main_c)) := by
  simp only [hostOps0_1, StableHlo.TRef.ternary, StableHlo.TRef.nullary, StableHlo.TRef.binary, StableHlo.TRef.unary, StableHlo.TRef.toBuf, StableHlo.TRef.ofBuf, cast_eq]
  after_reads_simp
  rfl
theorem mid_keep : StableHlo.after hostOps0_1 U (Proc.devRef .tc main_v2) = U (Proc.devRef .tc main_v2) ∧ StableHlo.after hostOps0_1 U (Proc.devRef .tc main_v20) = U (Proc.devRef .tc main_v20)
    ∧ StableHlo.after hostOps0_1 U (Proc.devRef .tc main_arg0) = U (Proc.devRef .tc main_arg0) ∧ StableHlo.after hostOps0_1 U (Proc.devRef .tc main_arg1) = U (Proc.devRef .tc main_arg1)
    ∧ StableHlo.after hostOps0_1 U (Proc.devRef .tc main_arg2) = U (Proc.devRef .tc main_arg2) := by
  simp only [hostOps0_1, StableHlo.TRef.ternary, StableHlo.TRef.nullary, StableHlo.TRef.binary, StableHlo.TRef.unary, StableHlo.TRef.toBuf, StableHlo.TRef.ofBuf, cast_eq]
  after_reads_simp
  refine ⟨?_, ?_, ?_, ?_, ?_⟩ <;> trivial

/-- The first operations: the factor, the terms, the lanes' numbers. -/
theorem early_scale : StableHlo.after hostOps0 U (Proc.devRef .tc main_v2) = scale := by
  after_reads_simp
  rfl
theorem early_parts : StableHlo.after hostOps0 U (Proc.devRef .tc main_v20) = parts (U (Proc.devRef .tc main_arg3)) := by
  after_reads_simp
  rfl
theorem early_count : StableHlo.after hostOps0 U (Proc.devRef .tc main_v22) = count ∧ StableHlo.after hostOps0 U (Proc.devRef .tc main_c) = constantI S_ 32 3#32 := by
  after_reads_simp
  refine ⟨?_, ?_⟩ <;> trivial
theorem early_keep : StableHlo.after hostOps0 U (Proc.devRef .tc main_arg0) = U (Proc.devRef .tc main_arg0) ∧ StableHlo.after hostOps0 U (Proc.devRef .tc main_arg1) = U (Proc.devRef .tc main_arg1)
    ∧ StableHlo.after hostOps0 U (Proc.devRef .tc main_arg2) = U (Proc.devRef .tc main_arg2) := by
  after_reads_simp
  refine ⟨?_, ?_, ?_⟩ <;> trivial

end Reads

variable (m : (ℓ : Loc nD τ sig) → Buf (Elt Ideal) ℓ) (c : Dev nD)

/-- The host's three runs of operations, one after another. -/
theorem staged (r : Ref sig .tc) : V m c r = StableHlo.after hostOps0_2 (StableHlo.after hostOps0_1 (StableHlo.after hostOps0 fun b => m (c, b))) (Proc.devRef .tc r) := by
  unfold V
  simp only [List.flatten_cons, List.flatten_nil, List.append_nil, Idealize.ShloMosaic.StableHlo.after_append]

theorem queries : V m c main_v41 = flat (qPrep (m ((c : Thread nD τ).loc main_arg0))) := by
  rw [staged, late_q, (mid_keep _).1, (mid_keep _).2.2.1, mid_third, early_scale, (early_keep _).1, (early_count _).1, (early_count _).2]
  rfl
theorem keys : V m c main_v43 = flat (kPrep (m ((c : Thread nD τ).loc main_arg1)) (m ((c : Thread nD τ).loc main_arg3))) := by
  rw [staged, late_k, (mid_keep _).2.1, (mid_keep _).2.2.2.1, early_parts, (early_keep _).2.1]
  rfl
theorem values : V m c main_v45 = flat (ones (m ((c : Thread nD τ).loc main_arg2))) := by
  rw [staged, late_v, (mid_keep _).2.2.2.2, (early_keep _).2.2]

end Cert.FoxIdeal.Rows

end
-- ==== Proof.FoxReference.lean ====
/- The FoX attention's reference over real arguments: the causal softmax average of a head's values. -/
module

public import proofs.«01_k».proof.Proof.Causal
public import proofs.«01_k».proof.Proof.Lanes
public import proofs.«01_k».proof.Proof.Gen.FoxReferenceIdeal.Read

@[expose] public section

set_option maxRecDepth 16384

noncomputable section

namespace Cert.FoxReferenceIdeal.Rows

open Idealize.ShloMosaic Idealize.ShloMosaic.TcCoe Idealize.SL.Sem
open Cert.FoxReferenceIdeal Cert.FoxReferenceIdeal.Read Cert.Online

variable (x0 x1 x2 : FVec Ideal S16x4096x4x64 .f32) (x3 : FVec Ideal S16x4096x4 .f32)

theorem whole : val_main_v32 (F := Ideal) x0 x1 x2 x3 = Cert.Causal.result (val_main_v9 (F := Ideal) x0 x1 x3) x2 := rfl

theorem logit_at (b : Fin 16) (h : Fin 4) (q k : Fin 4096) :
    val_main_v9 (F := Ideal) x0 x1 x3 (ix4 b h q k)
      = (∑ d : Fin 64, x0 (ix4 b q h d) * x1 (ix4 b k h d)) * Ideal.ofBits .f32 0x3E000000#32 + x3 (ix3 b q h) - x3 (ix3 b k h) := by
  pointwise [val_main_v9, val_main_v8, val_main_v7, val_main_v6, val_main_v5, val_main_v4, val_main_v3, val_main_v2, val_main_v1, val_main_v0, val_main_cst]

end Cert.FoxReferenceIdeal.Rows

end
-- ==== Proof.FoxArray.lean ====
/- The FoX attention call: the array the kernel leaves is its reference's. -/
module

public import proofs.«01_k».proof.Proof.FoxRows
public import proofs.«01_k».proof.Proof.FoxHost
public import proofs.«01_k».proof.Proof.FoxReference
public import proofs.«01_k».proof.Proof.Finite

@[expose] public section

set_option maxRecDepth 16384

noncomputable section

namespace Cert.FoxIdeal.Rows

open Idealize.ShloMosaic Idealize.ShloMosaic.TcCoe Idealize.SL.Sem
open Idealize.ShloMosaic.Pipeline (Dat)
open Cert.FoxIdeal Cert.FoxIdeal.Gen Cert.Tile Cert.Online Cert.Lanes Cert.Finite

variable (m : (ℓ : Loc nD τ sig) → Buf (Elt Ideal) ℓ)

/-- The block every window reads or writes at a grid point. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, t.val % 8, 0] :=
  (by decide +kernel : ∀ t : Fin grid0.N, _)

theorem tile_of : ∀ t : Fin cfg0.N, ((grid0.coords t) 1).val = t.val % 8 :=
  (by decide +kernel : ∀ t : Fin grid0.N, _)

/-- The batch a grid point works on. -/
def bat (t : Fin cfg0.N) : Fin 16 := ⟨t.val / 8, Nat.div_lt_of_lt_mul t.isLt⟩

/-- The row of the array that is row `r` of the point's block. -/
def row (t : Fin cfg0.N) (r : Fin 512) : Fin 4096 := ⟨512 * (t.val % 8) + r.val, by have := r.isLt; omega⟩

variable (c : Dev nD) (t : Fin cfg0.N)

/-- The lanes of the terms that are a head's own, and a key's lanes of the terms, every head's first part only. -/
def own (h : Fin 4) (d : Fin 32) : ℝ := if d.val / 3 = h.val then 1 else 0
def held (T : Fin 4 → ℝ) (d : Fin 32) : ℝ := if h : d.val < 12 then if d.val % 3 = 0 then T ⟨d.val / 3, by omega⟩ else 0 else 0

theorem sum_own (h : Fin 4) (T : Fin 4 → ℝ) : ∑ d : Fin 32, own h d * held T d = T h := by
  have hh := h.isLt
  rw [Finset.sum_eq_single (⟨3 * h.val, by omega⟩ : Fin 32)]
  · unfold own held
    rw [if_pos (by show 3 * h.val / 3 = h.val; omega), dif_pos (by show 3 * h.val < 12; omega), if_pos (by show 3 * h.val % 3 = 0; omega), one_mul]
    exact congrArg T (Fin.ext (by show 3 * h.val / 3 = h.val; omega))
  · intro d _ hd
    unfold own held
    by_cases h1 : d.val / 3 = h.val
    · rw [if_pos h1, dif_pos (by omega), if_neg (fun h2 => hd (Fin.ext (by show d.val = 3 * h.val; omega))), mul_zero]
    · rw [if_neg h1, zero_mul]
  · intro h1
    exact absurd (Finset.mem_univ _) h1

theorem eighth : Ideal.ofBits .f32 0x3E000000#32 = ((1 / 8 : ℝ) : EReal) := by
  simp [Ideal.ofBits, Ideal.ieee]; rw [← EReal.coe_mul]; norm_num

theorem recip_eq : recip ix0 = ((1 / Real.log 2 : ℝ) : EReal) := by
  pointwise [recip]
  rw [log_two, Ideal.div_coe log_ne, one_mul]

theorem scale_eq : scale ix0 = ((1 / 8 * (1 / Real.log 2) : ℝ) : EReal) := by
  have e : scale ix0 = Ideal.ofBits .f32 0x3E000000#32 * recip ix0 := by
    pointwise [scale]
  rw [e, recip_eq, eighth, ← EReal.coe_mul]

theorem cells : ∀ (h : Fin 4) (d : Fin 12), mine (third count (constantI S_ 32 3#32)) (ix2 h d) = if d.val / 3 = h.val then 1#1 else 0#1 := by
  decide +kernel

theorem term_at (x : FVec Ideal S16x4096x4 .f32) (f : Fine (s := S16x4096x4) x) (b : Fin 16) (j : Fin 4096) (h : Fin 4) : term x (ix3 b j h) = ((-(1 / Real.log 2) * (x (ix3 b j h)).toReal : ℝ) : EReal) := by
  have e : term x (ix3 b j h) = -recip ix0 * x (ix3 b j h) := by
    pointwise [term]
  rw [e, recip_eq, ← EReal.coe_neg]
  exact (congrArg (_ * ·) (f _)).trans (EReal.coe_mul _ _).symm

theorem parts_at (x : FVec Ideal S16x4096x4 .f32) (f : Fine (s := S16x4096x4) x) (b : Fin 16) (j : Fin 4096) (d : Fin 12) :
    parts x (ix4 b j 0 d) = ((if d.val % 3 = 0 then -(1 / Real.log 2) * (x (ix3 b j ⟨d.val / 3, by omega⟩)).toReal else 0 : ℝ) : EReal) := by
  have hb : ∀ y : FVec Ideal S16x4096x4 .f32, back y = y := fun y => rfl
  have hr : ∀ h, rest (term x) (ix3 b j h) = 0 := fun h => by
    have e : rest (term x) (ix3 b j h) = term x (ix3 b j h) - term x (ix3 b j h) := rfl
    rw [e, term_at x f, ← EReal.coe_sub, sub_self, EReal.coe_zero]
  have hr2 : ∀ h, rest (rest (term x)) (ix3 b j h) = 0 := fun h => by
    have e : rest (rest (term x)) (ix3 b j h) = rest (term x) (ix3 b j h) - rest (term x) (ix3 b j h) := rfl
    rw [e, hr, sub_zero]
  have e : ∀ u v w : FVec Ideal S16x4096x4 .f32, shapeCast S16x4096x1x12 (three (wide u) (wide v) (wide w)) shapeCasts_S16x4096x4x3_S16x4096x1x12 (ix4 b j 0 d)
      = if _h : d.val % 3 < 1 then u (ix3 b j ⟨d.val / 3, by omega⟩) else if _h : d.val % 3 - 1 < 1 then v (ix3 b j ⟨d.val / 3, by omega⟩) else w (ix3 b j ⟨d.val / 3, by omega⟩) := fun u v w => by
    pointwise [three, wide]
  unfold parts
  rw [hb, hb, hb, e]
  by_cases h1 : d.val % 3 = 0
  · rw [dif_pos (by omega), if_pos h1, term_at x f]
  · rw [dif_neg (by omega), if_neg h1, EReal.coe_zero]
    by_cases h2 : d.val % 3 - 1 < 1
    · rw [dif_pos h2, hr]
    · rw [dif_neg h2, hr2]

theorem q_at (x0 : FVec Ideal S16x4096x4x64 .f32) (f0 : Fine (s := S16x4096x4x64) x0) (b : Fin 16) (j : Fin 4096) (h : Fin 4) (l : Fin 128) :
    qPrep x0 (ix4 b j h l) = (lanes (fun d => 1 / 8 * (1 / Real.log 2) * (x0 (ix4 b j h d)).toReal) (fun _ => 0) (own h) l : EReal) := by
  have e : ∀ i : IVec S4x12 1, layout (times scale x0) (pick i) (ix4 b j h l) = if h1 : l.val < 64 then scale ix0 * x0 (ix4 b j h ⟨l.val, h1⟩) else if _h : l.val - 64 < 32 then 0
      else if h3 : l.val - 64 - 32 < 12 then FloatOps.uitofp (F := Ideal) .f32 (i (ix2 h ⟨l.val - 64 - 32, h3⟩)) else 0 := fun i => by
    pointwise [layout, times, pick, cat4]
  unfold qPrep
  rw [e, scale_eq]
  unfold lanes own
  by_cases h1 : l.val < 64
  · rw [dif_pos h1, dif_pos h1]; exact (congrArg (_ * ·) (f0 _)).trans (EReal.coe_mul _ _).symm
  · by_cases h2 : l.val < 96
    · rw [dif_neg h1, dif_neg h1, dif_pos h2, dif_pos (by omega), EReal.coe_zero]
    · rw [dif_neg h1, dif_neg h1, dif_neg h2, dif_neg (by omega)]
      by_cases h3 : l.val - 64 - 32 < 12
      · rw [dif_pos h3, cells]
        show FloatOps.uitofp (F := Ideal) .f32 (if (l.val - 64 - 32) / 3 = h.val then 1#1 else 0#1) = _
        by_cases h4 : (l.val - 96) / 3 = h.val
        · rw [if_pos h4, if_pos (by omega)]; simp [FloatOps.uitofp]
        · rw [if_neg h4, if_neg (by omega)]; simp [FloatOps.uitofp]
      · rw [dif_neg h3, if_neg (by have := h.isLt; show ¬ (l.val - 96) / 3 = h.val; omega), EReal.coe_zero]

theorem k_at (x1 : FVec Ideal S16x4096x4x64 .f32) (x3 : FVec Ideal S16x4096x4 .f32) (f1 : Fine (s := S16x4096x4x64) x1) (f3 : Fine (s := S16x4096x4) x3) (b : Fin 16) (j : Fin 4096) (h : Fin 4) (l : Fin 128) :
    kPrep x1 x3 (ix4 b j h l) = (lanes (fun d => (x1 (ix4 b j h d)).toReal) (fun _ => 0) (held fun h' => -(1 / Real.log 2) * (x3 (ix3 b j h')).toReal) l : EReal) := by
  have e : ∀ p : FVec Ideal S16x4096x1x12 .f32, layout x1 (every p) (ix4 b j h l) = if h1 : l.val < 64 then x1 (ix4 b j h ⟨l.val, h1⟩) else if _h : l.val - 64 < 32 then 0
      else if h3 : l.val - 64 - 32 < 12 then p (ix4 b j 0 ⟨l.val - 64 - 32, h3⟩) else 0 := fun p => by
    pointwise [layout, every, cat4]
  unfold kPrep
  rw [e]
  unfold lanes held
  by_cases h1 : l.val < 64
  · rw [dif_pos h1, dif_pos h1]; exact f1 _
  · by_cases h2 : l.val < 96
    · rw [dif_neg h1, dif_neg h1, dif_pos h2, dif_pos (by omega), EReal.coe_zero]
    · rw [dif_neg h1, dif_neg h1, dif_neg h2, dif_neg (by omega)]
      by_cases h3 : l.val - 64 - 32 < 12
      · rw [dif_pos h3, dif_pos (by show l.val - 96 < 12; omega), parts_at x3 f3]
        rfl
      · rw [dif_neg h3, dif_neg (by show ¬ l.val - 96 < 12; omega), EReal.coe_zero]

theorem blk0 (X : FVec Ideal S16x4096x512 .bf16) (hX : V m c main_v41 = X) (r l : Fin 512) : iblk m c 0 t (ix3 0 r l) = X (ix3 (bat t) (row t r) l) := by
  have hX' : V m c (Pipeline.arrRef spec0 0) = X := hX
  have he : ((View.whole main_v41).slice (win0_0.rect t)).emb (ix3 0 r l) = ix3 (bat t) (row t r) l := by
    funext a; apply Fin.ext; fin_cases a <;> blk_simp [idx t, bat, row] <;> first | rfl | exact congrArg (· + _) (Nat.mul_comm _ _)
  unfold iblk
  rw [hX']
  exact congrArg X he
theorem blk1 (X : FVec Ideal S16x4096x512 .bf16) (hX : V m c main_v43 = X) (k : Fin 4096) (l : Fin 512) : iblk m c 1 t (ix3 0 k l) = X (ix3 (bat t) k l) := by
  have hX' : V m c (Pipeline.arrRef spec0 1) = X := hX
  have he : ((View.whole main_v43).slice (win0_1.rect t)).emb (ix3 0 k l) = ix3 (bat t) k l := by
    funext a; apply Fin.ext; fin_cases a <;> blk_simp [idx t, bat, row] <;> first | rfl | exact congrArg (· + _) (Nat.mul_comm _ _)
  unfold iblk
  rw [hX']
  exact congrArg X he
theorem blk2 (X : FVec Ideal S16x4096x512 .bf16) (hX : V m c main_v45 = X) (k : Fin 4096) (l : Fin 512) : iblk m c 2 t (ix3 0 k l) = X (ix3 (bat t) k l) := by
  have hX' : V m c (Pipeline.arrRef spec0 2) = X := hX
  have he : ((View.whole main_v45).slice (win0_2.rect t)).emb (ix3 0 k l) = ix3 (bat t) k l := by
    funext a; apply Fin.ext; fin_cases a <;> blk_simp [idx t, bat, row] <;> first | rfl | exact congrArg (· + _) (Nat.mul_comm _ _)
  unfold iblk
  rw [hX']
  exact congrArg X he

/-- The reference's result, over this program's arguments. -/
abbrev ref : FVec Ideal S16x4096x256 .bf16 :=
  Cert.FoxReferenceIdeal.Read.val_main_v32 (F := Ideal) (m ((c : Thread nD τ).loc main_arg0)) (m ((c : Thread nD τ).loc main_arg1)) (m ((c : Thread nD τ).loc main_arg2)) (m ((c : Thread nD τ).loc main_arg3))

/-- What the precondition says of the arguments. -/
def Finite3 : Prop := Fine (s := S16x4096x4x64) (m ((c : Thread nD τ).loc main_arg0)) ∧ Fine (s := S16x4096x4x64) (m ((c : Thread nD τ).loc main_arg1))
  ∧ Fine (s := S16x4096x4) (m ((c : Thread nD τ).loc main_arg3))

/-- What a grid point stores is its block of the reference's result. The reference's logits are the kernel's with the row's own term added, which no weight sees. -/
theorem point (hf : Finite3 m c) (r : Fin 512) (e : Fin 256) : outsAt0 m c t (ix3 0 r e) = ref m c (ix3 (bat t) (row t r) e) := by
  obtain ⟨f0, f1, f3⟩ := hf
  unfold ref
  generalize hx0 : (m ((c : Thread nD τ).loc main_arg0) : FVec Ideal S16x4096x4x64 .f32) = x0 at *
  generalize hx1 : (m ((c : Thread nD τ).loc main_arg1) : FVec Ideal S16x4096x4x64 .f32) = x1 at *
  generalize hx2 : (m ((c : Thread nD τ).loc main_arg2) : FVec Ideal S16x4096x4x64 .f32) = x2 at *
  generalize hx3 : (m ((c : Thread nD τ).loc main_arg3) : FVec Ideal S16x4096x4 .f32) = x3 at *
  have hq : V m c main_v41 = flat (qPrep x0) := by rw [queries, hx0]
  have hk : V m c main_v43 = flat (kPrep x1 x3) := by rw [keys, hx1, hx3]
  have hv : V m c main_v45 = flat (ones x2) := by rw [values, hx2]
  have he := e.isLt
  have key := out_soft c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) r e
    (fun k => ∑ d : Fin 64, (1 / 8 * (1 / Real.log 2) * (x0 (ix4 (bat t) (row t r) ⟨e.val / 64, by omega⟩ d)).toReal) * (x1 (ix4 (bat t) k ⟨e.val / 64, by omega⟩ d)).toReal
      + (∑ _d : Fin 32, (0 : ℝ) * 0 + ∑ d : Fin 32, own ⟨e.val / 64, by omega⟩ d * held (fun h' => -(1 / Real.log 2) * (x3 (ix3 (bat t) k h')).toReal) d))
    (fun k l => if h1 : l.val < 64 then 1 else x2 (ix4 (bat t) k ⟨e.val / 64, by omega⟩ ⟨l.val - 64, by have := l.isLt; omega⟩))
    (fun k => by
      refine (Finset.sum_congr rfl fun l _ => ?_).trans (dot_lanes _ _ _ _ _ _)
      exact congrArg₂ (· * ·) ((blk0 m c t _ hq r _).trans ((flat_at _ _ _ _ _).trans (q_at x0 f0 _ _ _ l))) ((blk1 m c t _ hk k _).trans ((flat_at _ _ _ _ _).trans (k_at x1 x3 f1 f3 _ _ _ l))))
    (fun k l => (blk2 m c t _ hv k _).trans ((flat_at _ _ _ _ _).trans (ones_at x2 _ _ _ l)))
    (fun k => dif_pos (by decide))
  unfold outsAt0
  refine key.trans (Eq.symm ?_)
  rw [Cert.FoxReferenceIdeal.Rows.whole]
  refine (Cert.Causal.result_soft (Cert.FoxReferenceIdeal.Read.val_main_v9 (F := Ideal) x0 x1 x3) x2 (bat t) (row t r) e
    (fun k => (∑ d : Fin 64, (x0 (ix4 (bat t) (row t r) ⟨e.val / 64, by omega⟩ d)).toReal * (x1 (ix4 (bat t) k ⟨e.val / 64, by omega⟩ d)).toReal) * (1 / 8)
      + (x3 (ix3 (bat t) (row t r) ⟨e.val / 64, by omega⟩)).toReal - (x3 (ix3 (bat t) k ⟨e.val / 64, by omega⟩)).toReal)
    (fun k => x2 (ix4 (bat t) k ⟨e.val / 64, by omega⟩ ⟨e.val % 64, Nat.mod_lt _ (by decide)⟩)) (fun k => ?_) (fun k => rfl)).trans ?_
  · rw [Cert.FoxReferenceIdeal.Rows.logit_at, eighth, EReal.coe_sub, EReal.coe_add, EReal.coe_mul, coe_sum]
    refine congrArg₂ (· - ·) (congrArg₂ (· + ·) (congrArg (· * _) (Finset.sum_congr rfl fun d _ => ?_)) (f3 _)) (f3 _)
    rw [EReal.coe_mul, ← f0, ← f1]
  · rw [tile_of t]
    refine ((soft_shift _ _ _ _ (x3 (ix3 (bat t) (row t r) ⟨e.val / 64, by omega⟩)).toReal fun k _ => ?_).trans (congrArg (soft _ _) (funext fun k => ?_)))
    · rw [sum_own]
      simp only [mul_assoc (1 / 8 * (1 / Real.log 2)), ← Finset.mul_sum, mul_zero, Finset.sum_const_zero, zero_add]
      have := log_ne
      field_simp
      ring
    · rw [dif_neg (by show ¬ 64 + e.val % 64 < 64; omega)]
      exact congrArg (fun q => x2 (ix4 (bat t) k _ q)) (Fin.ext (by show e.val % 64 = 64 + e.val % 64 - 64; omega))

/-- Where an index of the output's block lies in the array. -/
theorem emb3 (X : FVec Ideal S16x4096x256 .bf16) (a : Fin 1) (r : Fin 512) (d : Fin 256) : X (ix3 (bat t) (row t r) d) = X ((win0_3.blk t).view.emb (ix3 a r d)) := by
  blk_ext [idx t, bat, row]

theorem point_emb (hf : Finite3 m c) (y : S1x512x256.Idx) : outsAt0 m c t y = ref m c ((win0_3.blk t).view.emb y) := by
  obtain ⟨a, r, d, rfl⟩ : ∃ (a : Fin 1) (r : Fin 512) (d : Fin 256), y = ix3 a r d := ⟨y 0, y 1, y 2, by funext x; fin_cases x <;> rfl⟩
  have ha : a = 0 := Subsingleton.elim _ _
  subst ha
  exact (point m c t hf r d).trans (emb3 t (ref m c) 0 r d)

/-- The array the kernel leaves is the reference's result. -/
theorem final (hf : Finite3 m c) : (dats m 0 c).arrAt 3 (cfgs 0).N = ref m c := by
  refine (dats m 0 c).arrAt_eq_of_covers 3 _ (by decide +kernel) fun t ht y => ?_
  blk_simp
  rw [after0_3]
  exact point_emb m c t hf y

end Cert.FoxIdeal.Rows

end
-- ==== Proof.lean ====
/- Assembly of `Cert.Claim`: the frames come from the generated runs, the equalities of the ideal programs from the
   modules imported below, one per call of the layer. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_mla_finite
public import proofs.«01_k».proof.Proof.Gen.Fox.Frame
public import proofs.«01_k».proof.Proof.Gen.FoxIdeal.Frame
public import proofs.«01_k».proof.Proof.Gen.FoxReferenceIdeal.Run
public import proofs.«01_k».proof.Proof.Gen.Pre_fox_finite
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.Merge.Frame
public import proofs.«01_k».proof.Proof.Gen.MergeIdeal.Frame
public import proofs.«01_k».proof.Proof.Gen.MergeReferenceIdeal.Run
public import proofs.«01_k».proof.Proof.Ffn
public import proofs.«01_k».proof.Proof.Merge
public import proofs.«01_k».proof.Proof.Mla
public import proofs.«01_k».proof.Proof.FoxArray
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference's frame: its run reads the arguments back, and it declares no semaphore. -/
theorem quiet_ReferenceIdeal (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference's frame: its run reads the arguments back, and it declares no semaphore. -/
theorem quiet_FoxReferenceIdeal (m : (ℓ : Loc Cert.FoxReferenceIdeal.nD Cert.FoxReferenceIdeal.τ Cert.FoxReferenceIdeal.sig) → Buf (Elt Ideal) ℓ) (ρ : Dev Cert.FoxReferenceIdeal.nD → PrngReg) :
    θ_run (Cert.FoxReferenceIdeal.defs (F := Ideal)) (onTc (τ := Cert.FoxReferenceIdeal.τ) (Cert.FoxReferenceIdeal.main (F := Ideal))) ⟨m, fun _ => 0, ρ⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)) ∧ r.2.sem = fun _ => 0) :=
  (θ_run Cert.FoxReferenceIdeal.defs _ _).mono (fun r h => ⟨fun c => (h c).2, sem_eq_zero_of_no_sems (by decide) r.2⟩)
    (Cert.FoxReferenceIdeal.Value.run (F := Ideal) m ρ)

/-- The reference's frame: its run reads the arguments back, and it declares no semaphore. -/
theorem quiet_FfnReferenceIdeal (m : (ℓ : Loc Cert.FfnReferenceIdeal.nD Cert.FfnReferenceIdeal.τ Cert.FfnReferenceIdeal.sig) → Buf (Elt Ideal) ℓ) (ρ : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, ρ⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)) ∧ r.2.sem = fun _ => 0) :=
  (θ_run Cert.FfnReferenceIdeal.defs _ _).mono (fun r h => ⟨fun c => (h c).2, sem_eq_zero_of_no_sems (by decide) r.2⟩)
    (Cert.FfnReferenceIdeal.Value.run (F := Ideal) m ρ)

/-- The reference's frame: its run reads the arguments back, and it declares no semaphore. -/
theorem quiet_MergeReferenceIdeal (m : (ℓ : Loc Cert.MergeReferenceIdeal.nD Cert.MergeReferenceIdeal.τ Cert.MergeReferenceIdeal.sig) → Buf (Elt Ideal) ℓ) (ρ : Dev Cert.MergeReferenceIdeal.nD → PrngReg) :
    θ_run (Cert.MergeReferenceIdeal.defs (F := Ideal)) (onTc (τ := Cert.MergeReferenceIdeal.τ) (Cert.MergeReferenceIdeal.main (F := Ideal))) ⟨m, fun _ => 0, ρ⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)) ∧ r.2.sem = fun _ => 0) :=
  (θ_run Cert.MergeReferenceIdeal.defs _ _).mono (fun r h => ⟨fun c => (h c).2, sem_eq_zero_of_no_sems (by decide) r.2⟩)
    (Cert.MergeReferenceIdeal.Value.run (F := Ideal) m ρ)

/-- The feed-forward call: both ideal programs leave the same array. -/
theorem ffn : Cert.algebraic_FfnIdeal_FfnReferenceIdeal := by
  pair_intro
  · run_from Cert.FfnIdeal.Value.run_blocks m g
  · run_from Cert.FfnReferenceIdeal.Value.run m' g'
    obtain ⟨h0, h1, h2, h3, h4, h5, h6⟩ := hagree c
    refine (Cert.FfnReferenceIdeal.Read.val_main_v56_eq m' c).trans ?_
    rw [h0, h1, h2, h3, h4, h5, h6]
    exact (Cert.FfnIdeal.Rows.final m c).symm

/-- The merge call: both ideal programs leave the same array. -/
theorem merge : Cert.algebraic_MergeIdeal_MergeReferenceIdeal := by
  pair_intro
  · run_from Cert.MergeIdeal.Value.run_blocks m g
  · run_from Cert.MergeReferenceIdeal.Value.run m' g'
    obtain ⟨h0, h1, h2, h3, h4, h5, h6, h7, h8, h9, h10, h11, h12⟩ := hagree c
    refine (Cert.MergeReferenceIdeal.Read.val_main_v77_eq m' c).trans ?_
    rw [h0, h1, h2, h3, h4, h5, h6, h7, h8, h9, h10, h11, h12]
    exact (Cert.MergeIdeal.Rows.final m c).symm

/-- The MLA attention call: over real arguments both ideal programs leave the same array. -/
theorem mla : Cert.algebraic_KernelIdeal_ReferenceIdeal_pre_mla_finite := by
  pair_intro
  · run_from Cert.KernelIdeal.Value.run_blocks m g
  · run_from Cert.ReferenceIdeal.Value.run m' g'
    obtain ⟨h0, h1, h2, h3, h4⟩ := hagree c
    refine (Cert.ReferenceIdeal.Read.val_main_v29_eq m' c).trans ?_
    rw [h0, h1, h2, h3, h4]
    exact (Cert.KernelIdeal.Rows.final m c (Cert.Finite.mla _ _ _ _ _ (hpre c))).symm

/-- The FoX attention call: over real arguments both ideal programs leave the same array. -/
theorem fox : Cert.algebraic_FoxIdeal_FoxReferenceIdeal_pre_fox_finite := by
  pair_intro
  · run_from Cert.FoxIdeal.Value.run_blocks m g
  · run_from Cert.FoxReferenceIdeal.Value.run m' g'
    obtain ⟨h0, h1, h2, h3⟩ := hagree c
    refine (Cert.FoxReferenceIdeal.Read.val_main_v32_eq m' c).trans ?_
    rw [h0, h1, h2, h3]
    exact (Cert.FoxIdeal.Rows.final m c (Cert.Finite.fox _ _ _ _ (hpre c))).symm

/-- Every claim of the certificate. -/
theorem claim : Cert.Claim := ⟨Cert.Kernel.Gen.facts, Cert.KernelIdeal.Gen.facts, Cert.ReferenceIdeal.Gen.facts, Cert.Fox.Gen.facts, Cert.FoxIdeal.Gen.facts, Cert.FoxReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.Pre_mla_finite.Gen.facts, Cert.Pre_fox_finite.Gen.facts,
  fun m ρ _ => Cert.Kernel.Gen.frame m ρ,
  fun m ρ _ => Cert.KernelIdeal.Gen.frame m ρ,
  fun m ρ _ => Cert.KernelIdeal.Gen.frame m ρ,
  fun m ρ _ => quiet_ReferenceIdeal m ρ,
  fun m ρ _ => quiet_ReferenceIdeal m ρ,
  fun m ρ _ => Cert.Fox.Gen.frame m ρ,
  fun m ρ _ => Cert.FoxIdeal.Gen.frame m ρ,
  fun m ρ _ => Cert.FoxIdeal.Gen.frame m ρ,
  fun m ρ _ => quiet_FoxReferenceIdeal m ρ,
  fun m ρ _ => quiet_FoxReferenceIdeal m ρ,
  fun m ρ _ => Cert.Ffn.Gen.frame m ρ,
  fun m ρ _ => Cert.FfnIdeal.Gen.frame m ρ,
  fun m ρ _ => quiet_FfnReferenceIdeal m ρ,
  fun m ρ _ => Cert.Merge.Gen.frame m ρ,
  fun m ρ _ => Cert.MergeIdeal.Gen.frame m ρ,
  fun m ρ _ => quiet_MergeReferenceIdeal m ρ,
  IdealRules.named_const.statement Cert.KernelIdeal.κ "mask" .f32 0xF149F2CA#32 ⊥ rfl,
  Cert.Proof.mla,
  IdealRules.named_const.statement Cert.FoxIdeal.κ "mask" .f32 0xF149F2CA#32 ⊥ rfl,
  Cert.Proof.fox,
  trivial,
  ffn,
  trivial,
  merge⟩

end Cert.Proof

end
